-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "far" .f32 0x7F61B1E6#32 ⊤

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S8x512x64 : Shape := ⟨3, ![8, 512, 64]⟩
abbrev S_ : Shape := ⟨0, ![]⟩

class Facts : Prop where
  bcast_S_S8x512x64 : S_.BroadcastsInDim S8x512x64 (![] : Fin 0 → Fin S8x512x64.rank)

variable [Facts]

def fn {F : FTy → Type} [FloatOps F] (main_arg0 : FVec F S8x512x64 .f32) (main_arg1 : FVec F S8x512x64 .f32) : IVec S8x512x64 1 :=
  let main_v0 : FVec F S8x512x64 .f32 := Host.absf main_arg0
  let main_cst : FVec F S_ .f32 := constant S_ .f32 0x7F800000#32
  let main_v1 : FVec F S8x512x64 .f32 := broadcastInDim S8x512x64 ![] bcast_S_S8x512x64 main_cst
  let main_v2 : IVec S8x512x64 1 := cmpf .olt main_v0 main_v1
  let main_v3 : FVec F S8x512x64 .f32 := Host.absf main_arg1
  let main_cst_0 : FVec F S_ .f32 := constant S_ .f32 0x7F800000#32
  let main_v4 : FVec F S8x512x64 .f32 := broadcastInDim S8x512x64 ![] bcast_S_S8x512x64 main_cst_0
  let main_v5 : IVec S8x512x64 1 := cmpf .olt main_v3 main_v4
  let main_v6 : IVec S8x512x64 1 := andi main_v2 main_v5
  main_v6
-- ==== Kernel.lean ====
abbrev S8x512x64 : Shape := ⟨3, ![8, 512, 64]⟩
abbrev S1x1 : Shape := ⟨2, ![1, 1]⟩
abbrev S_ : Shape := ⟨0, ![]⟩
abbrev S512x8x512 : Shape := ⟨3, ![512, 8, 512]⟩
abbrev S512x512 : Shape := ⟨2, ![512, 512]⟩
abbrev S1x512x64 : Shape := ⟨3, ![1, 512, 64]⟩
abbrev S512x64 : Shape := ⟨2, ![512, 64]⟩
abbrev S512 : Shape := ⟨1, ![512]⟩
abbrev S512x1 : Shape := ⟨2, ![512, 1]⟩
abbrev S1x512 : Shape := ⟨2, ![1, 512]⟩
abbrev S512x1x512 : Shape := ⟨3, ![512, 1, 512]⟩
abbrev S1x8x512 : Shape := ⟨3, ![1, 8, 512]⟩
abbrev S8x512 : Shape := ⟨2, ![8, 512]⟩
abbrev S8x128 : Shape := ⟨2, ![8, 128]⟩
abbrev S8 : Shape := ⟨1, ![8]⟩
abbrev S8x1 : Shape := ⟨2, ![8, 1]⟩
abbrev S8x127 : Shape := ⟨2, ![8, 127]⟩
abbrev S8x2 : Shape := ⟨2, ![8, 2]⟩
abbrev S8x126 : Shape := ⟨2, ![8, 126]⟩
abbrev S8x3 : Shape := ⟨2, ![8, 3]⟩
abbrev S8x125 : Shape := ⟨2, ![8, 125]⟩
abbrev S8x4 : Shape := ⟨2, ![8, 4]⟩
abbrev S8x124 : Shape := ⟨2, ![8, 124]⟩
abbrev S8x5 : Shape := ⟨2, ![8, 5]⟩
abbrev S8x123 : Shape := ⟨2, ![8, 123]⟩
abbrev S8x6 : Shape := ⟨2, ![8, 6]⟩
abbrev S8x122 : Shape := ⟨2, ![8, 122]⟩
abbrev S8x7 : Shape := ⟨2, ![8, 7]⟩
abbrev S8x121 : Shape := ⟨2, ![8, 121]⟩
abbrev S8x8 : Shape := ⟨2, ![8, 8]⟩
abbrev S8x120 : Shape := ⟨2, ![8, 120]⟩
abbrev S8x9 : Shape := ⟨2, ![8, 9]⟩
abbrev S8x119 : Shape := ⟨2, ![8, 119]⟩
abbrev S8x10 : Shape := ⟨2, ![8, 10]⟩
abbrev S8x118 : Shape := ⟨2, ![8, 118]⟩
abbrev S8x11 : Shape := ⟨2, ![8, 11]⟩
abbrev S8x117 : Shape := ⟨2, ![8, 117]⟩
abbrev S8x13 : Shape := ⟨2, ![8, 13]⟩
abbrev S8x115 : Shape := ⟨2, ![8, 115]⟩
abbrev S8x25 : Shape := ⟨2, ![8, 25]⟩
abbrev S8x103 : Shape := ⟨2, ![8, 103]⟩
abbrev S8x37 : Shape := ⟨2, ![8, 37]⟩
abbrev S8x91 : Shape := ⟨2, ![8, 91]⟩
abbrev S8x49 : Shape := ⟨2, ![8, 49]⟩
abbrev S8x79 : Shape := ⟨2, ![8, 79]⟩
abbrev S8x61 : Shape := ⟨2, ![8, 61]⟩
abbrev S8x67 : Shape := ⟨2, ![8, 67]⟩
abbrev S8x73 : Shape := ⟨2, ![8, 73]⟩
abbrev S8x55 : Shape := ⟨2, ![8, 55]⟩
abbrev S8x85 : Shape := ⟨2, ![8, 85]⟩
abbrev S8x43 : Shape := ⟨2, ![8, 43]⟩
abbrev S8x97 : Shape := ⟨2, ![8, 97]⟩
abbrev S8x31 : Shape := ⟨2, ![8, 31]⟩
abbrev S8x109 : Shape := ⟨2, ![8, 109]⟩
abbrev S8x19 : Shape := ⟨2, ![8, 19]⟩
abbrev S1x8 : Shape := ⟨2, ![1, 8]⟩
abbrev S1 : Shape := ⟨1, ![1]⟩

abbrev nBuf : Space → Nat
  | .hbm => 4
  | .vmem => 5
  | .smem => 0
  | _ => 0

abbrev bufTy : (tb : Table) → Fin (tcTables nBuf tb) → BufTy
  | .hbm, ⟨0, _⟩ => ⟨S8x512x64, .f32⟩
  | .hbm, ⟨1, _⟩ => ⟨S8x512x64, .f32⟩
  | .hbm, ⟨2, _⟩ => ⟨S1x1, .f32⟩
  | .hbm, ⟨3, _⟩ => ⟨S_, .f32⟩
  | .local _ .vmem, ⟨0, _⟩ => ⟨S8x512x64, .f32⟩
  | .local _ .vmem, ⟨1, _⟩ => ⟨S8x512x64, .f32⟩
  | .local _ .vmem, ⟨2, _⟩ => ⟨S1x1, .f32⟩
  | .local _ .vmem, ⟨3, _⟩ => ⟨S512x8x512, .f32⟩
  | .local _ .vmem, ⟨4, _⟩ => ⟨S512x8x512, .f32⟩
  | _, _ => ⟨S8x512x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

@[reducible] def k0_t1_loop : Scf.Loop 32 :=
  let c1_i32 : BitVec 32 := 1#32
  let c511_i32 : BitVec 32 := 511#32
  let v328 : BitVec 32 := Scalar.addi c1_i32 c511_i32
  let c1_i32_172 : BitVec 32 := 1#32
  ⟨c1_i32, v328, c1_i32_172⟩
def k0_off1 (k0_t1 : Fin k0_t1_loop.trips) : Fin 3 → Nat :=
  let c1_i32 : BitVec 32 := 1#32
  let c1_i32_172 : BitVec 32 := 1#32
  let arg5 : BitVec 32 := Scf.iv c1_i32 c1_i32_172 k0_t1
  let v339 : Index := Scalar.indexCast arg5
  let c0_178 : Index := 0#32
  let c0_179 : Index := 0#32
  ![v339.toNat, 0, 0]
abbrev stage0_0 : Fin 1 → Memref sig .tc .vmem S8x512x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x512x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== KernelIdeal.lean ====
variable {F : FTy → Type} [FloatOps F] [Named F]
def κ : String → Option EReal := fun
  | "far" => some ⊤
  | _ => none
-- ==== ReferenceIdeal.lean ====
abbrev S8x512x64 : Shape := ⟨3, ![8, 512, 64]⟩
abbrev S_ : Shape := ⟨0, ![]⟩
abbrev S8x512 : Shape := ⟨2, ![8, 512]⟩
abbrev S8x512x512 : Shape := ⟨3, ![8, 512, 512]⟩
abbrev S8x512x1 : Shape := ⟨3, ![8, 512, 1]⟩
abbrev S8x1x512 : Shape := ⟨3, ![8, 1, 512]⟩
abbrev S8x511x512 : Shape := ⟨3, ![8, 511, 512]⟩
abbrev S511x8x512 : Shape := ⟨3, ![511, 8, 512]⟩
abbrev S8x1 : Shape := ⟨2, ![8, 1]⟩
abbrev S1x8x512 : Shape := ⟨3, ![1, 8, 512]⟩
abbrev S8x511 : Shape := ⟨2, ![8, 511]⟩
abbrev S8 : Shape := ⟨1, ![8]⟩

abbrev nBuf : Space → Nat
  | .hbm => 78
  | .vmem => 0
  | .smem => 0
  | _ => 0

abbrev bufTy : (tb : Table) → Fin (tcTables nBuf tb) → BufTy
  | .hbm, ⟨0, _⟩ => ⟨S8x512x64, .f32⟩
  | .hbm, ⟨1, _⟩ => ⟨S8x512x64, .f32⟩
  | .hbm, ⟨2, _⟩ => ⟨S8x512x64, .f32⟩
  | .hbm, ⟨3, _⟩ => ⟨S_, .f32⟩
  | .hbm, ⟨4, _⟩ => ⟨S8x512, .f32⟩
  | .hbm, ⟨5, _⟩ => ⟨S8x512x64, .f32⟩
  | .hbm, ⟨6, _⟩ => ⟨S_, .f32⟩
  | .hbm, ⟨7, _⟩ => ⟨S8x512, .f32⟩
  | .hbm, ⟨8, _⟩ => ⟨S_, .f32⟩
  | .hbm, ⟨9, _⟩ => ⟨S8x512, .f32⟩
  | .hbm, ⟨10, _⟩ => ⟨S_, .f32⟩
  | .hbm, ⟨11, _⟩ => ⟨S8x512, .f32⟩
  | .hbm, ⟨12, _⟩ => ⟨S8x512x512, .f32⟩
  | .hbm, ⟨13, _⟩ => ⟨S8x512x1, .f32⟩
  | .hbm, ⟨14, _⟩ => ⟨S8x1x512, .f32⟩
  | .hbm, ⟨15, _⟩ => ⟨S8x512x512, .f32⟩
  | .hbm, ⟨16, _⟩ => ⟨S8x512x512, .f32⟩
  | .hbm, ⟨17, _⟩ => ⟨S8x512x512, .f32⟩
  | .hbm, ⟨18, _⟩ => ⟨S_, .f32⟩
  | .hbm, ⟨19, _⟩ => ⟨S8x512x512, .f32⟩
  | .hbm, ⟨20, _⟩ => ⟨S8x512x512, .f32⟩
  | .hbm, ⟨21, _⟩ => ⟨S8x512x512, .f32⟩
  | .hbm, ⟨22, _⟩ => ⟨S8x512x1, .f32⟩
  | .hbm, ⟨23, _⟩ => ⟨S8x1x512, .f32⟩
  | .hbm, ⟨24, _⟩ => ⟨S8x512x512, .f32⟩
  | .hbm, ⟨25, _⟩ => ⟨S8x512x512, .f32⟩
  | .hbm, ⟨26, _⟩ => ⟨S8x512x512, .f32⟩
  | .hbm, ⟨27, _⟩ => ⟨S_, .f32⟩
  | .hbm, ⟨28, _⟩ => ⟨S8x512x512, .f32⟩
  | .hbm, ⟨29, _⟩ => ⟨S8x512x512, .f32⟩
  | .hbm, ⟨30, _⟩ => ⟨S8x512x512, .f32⟩
  | .hbm, ⟨31, _⟩ => ⟨S_, .f32⟩
  | .hbm, ⟨32, _⟩ => ⟨S8x512x512, .f32⟩
  | .hbm, ⟨33, _⟩ => ⟨S8x512x512, .f32⟩
  | .hbm, ⟨34, _⟩ => ⟨S_, .f32⟩
  | .hbm, ⟨35, _⟩ => ⟨S8x512x512, .f32⟩
  | .hbm, ⟨36, _⟩ => ⟨S8x512x512, .f32⟩
  | .hbm, ⟨37, _⟩ => ⟨S8x512x512, .f32⟩
  | .hbm, ⟨38, _⟩ => ⟨S8x1x512, .f32⟩
  | .hbm, ⟨39, _⟩ => ⟨S8x512, .f32⟩
  | .hbm, ⟨40, _⟩ => ⟨S_, .f32⟩
  | .hbm, ⟨41, _⟩ => ⟨S_, .f32⟩
  | .hbm, ⟨42, _⟩ => ⟨S8x512, .f32⟩
  | .hbm, ⟨43, _⟩ => ⟨S8x511x512, .f32⟩
  | .hbm, ⟨44, _⟩ => ⟨S511x8x512, .f32⟩
  | .hbm, ⟨45, _⟩ => ⟨S_, .f32⟩
  | .hbm, ⟨46, _⟩ => ⟨S8x1, .f32⟩
  | .hbm, ⟨47, _⟩ => ⟨S_, .i32⟩
  | .hbm, ⟨48, _⟩ => ⟨S511x8x512, .f32⟩
  | .hbm, ⟨49, _⟩ => ⟨S8x1, .f32⟩
  | .hbm, ⟨50, _⟩ => ⟨S_, .i32⟩
  | .hbm, ⟨51, _⟩ => ⟨S8x512, .f32⟩
  | .hbm, ⟨52, _⟩ => ⟨S_, .i32⟩
  | .hbm, ⟨53, _⟩ => ⟨S_, .i1⟩
  | .hbm, ⟨54, _⟩ => ⟨S_, .i32⟩
  | .hbm, ⟨55, _⟩ => ⟨S_, .i32⟩
  | .hbm, ⟨56, _⟩ => ⟨S1x8x512, .f32⟩
  | .hbm, ⟨57, _⟩ => ⟨S8x512, .f32⟩
  | .hbm, ⟨58, _⟩ => ⟨S8x511, .f32⟩
  | .hbm, ⟨59, _⟩ => ⟨S8x512, .f32⟩
  | .hbm, ⟨60, _⟩ => ⟨S8x512, .f32⟩
  | .hbm, ⟨61, _⟩ => ⟨S8x512, .f32⟩
  | .hbm, ⟨62, _⟩ => ⟨S_, .f32⟩
  | .hbm, ⟨63, _⟩ => ⟨S_, .f32⟩
  | .hbm, ⟨64, _⟩ => ⟨S8x512, .f32⟩
  | .hbm, ⟨65, _⟩ => ⟨S8x512, .f32⟩
  | .hbm, ⟨66, _⟩ => ⟨S_, .f32⟩
  | .hbm, ⟨67, _⟩ => ⟨S_, .f32⟩
  | .hbm, ⟨68, _⟩ => ⟨S8x512, .f32⟩
  | .hbm, ⟨69, _⟩ => ⟨S8x512, .f32⟩
  | .hbm, ⟨70, _⟩ => ⟨S_, .i32⟩
  | .hbm, ⟨71, _⟩ => ⟨S_, .i32⟩
  | .hbm, ⟨72, _⟩ => ⟨S8x1, .f32⟩
  | .hbm, ⟨73, _⟩ => ⟨S8, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S_, .f32⟩
  | _, _ => ⟨S8x512x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_cst_2 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_3 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_4 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_5 : Ref sig .tc := ⟨.hbm, 31, rfl⟩
abbrev main_v23 : Ref sig .tc := ⟨.hbm, 32, rfl⟩
abbrev main_v24 : Ref sig .tc := ⟨.hbm, 33, rfl⟩
abbrev main_cst_6 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_call0_call0_cst : Ref sig .tc := ⟨.hbm, 40, rfl⟩
abbrev main_call0_call0_v0 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_7 : Ref sig .tc := ⟨.hbm, 45, rfl⟩
abbrev main_v33 : Ref sig .tc := ⟨.hbm, 46, rfl⟩
abbrev main_c : Ref sig .tc := ⟨.hbm, 47, rfl⟩
abbrev main_v34_0 : Ref sig .tc := ⟨.hbm, 48, rfl⟩
abbrev main_v34_1 : Ref sig .tc := ⟨.hbm, 49, rfl⟩
abbrev main_v34_2 : Ref sig .tc := ⟨.hbm, 50, rfl⟩
abbrev main_v34_3 : Ref sig .tc := ⟨.hbm, 51, rfl⟩
abbrev main_while0c_c_13 : Ref sig .tc := ⟨.hbm, 52, rfl⟩
abbrev main_while0c_v39 : Ref sig .tc := ⟨.hbm, 53, rfl⟩
abbrev main_while0b_call1_c : Ref sig .tc := ⟨.hbm, 54, rfl⟩
abbrev main_while0b_call1_c_0 : Ref sig .tc := ⟨.hbm, 55, rfl⟩
abbrev main_while0b_call1_v0 : Ref sig .tc := ⟨.hbm, 56, rfl⟩
abbrev main_while0b_v39 : Ref sig .tc := ⟨.hbm, 57, rfl⟩
abbrev main_while0b_v40 : Ref sig .tc := ⟨.hbm, 58, rfl⟩
abbrev main_while0b_v41 : Ref sig .tc := ⟨.hbm, 59, rfl⟩
abbrev main_while0b_v42 : Ref sig .tc := ⟨.hbm, 60, rfl⟩
abbrev main_while0b_v43 : Ref sig .tc := ⟨.hbm, 61, rfl⟩
abbrev main_while0b_call2_call0_cst : Ref sig .tc := ⟨.hbm, 62, rfl⟩
abbrev main_while0b_call2_call0_v0 : Ref sig .tc := ⟨.hbm, 63, rfl⟩
abbrev main_while0b_v44 : Ref sig .tc := ⟨.hbm, 64, rfl⟩
abbrev main_while0b_v45 : Ref sig .tc := ⟨.hbm, 65, rfl⟩
abbrev main_while0b_call3_cst : Ref sig .tc := ⟨.hbm, 66, rfl⟩
abbrev main_while0b_call3_v0 : Ref sig .tc := ⟨.hbm, 67, rfl⟩
abbrev main_while0b_v46 : Ref sig .tc := ⟨.hbm, 68, rfl⟩
abbrev main_while0b_v47 : Ref sig .tc := ⟨.hbm, 69, rfl⟩
abbrev main_while0b_c_13 : Ref sig .tc := ⟨.hbm, 70, rfl⟩
abbrev main_while0b_v48 : Ref sig .tc := ⟨.hbm, 71, rfl⟩
abbrev main_v35 : Ref sig .tc := ⟨.hbm, 72, rfl⟩
abbrev main_v36 : Ref sig .tc := ⟨.hbm, 73, rfl⟩
abbrev main_cst_8 : Ref sig .tc := ⟨.hbm, 74, rfl⟩
abbrev main_v37 : Ref sig .tc := ⟨.hbm, 75, rfl⟩
abbrev main_cst_9 : Ref sig .tc := ⟨.hbm, 76, rfl⟩
abbrev main_v38 : Ref sig .tc := ⟨.hbm, 77, rfl⟩

abbrev nD : Nat := 1
abbrev τ : Topo := Topo.v7x

variable {F : FTy → Type} [FloatOps F]

abbrev main_while0_count : Scf.Loop 32 := ⟨0#32, 511#32, 1#32⟩
-- ==== Proof.Consts.lean ====
/- The 32-bit words that the kernel and the reference spell, as extended reals. -/
module

public import proofs.«01_k».proof.Defs

@[expose] public section

noncomputable section

namespace Cert.Dtw

open Idealize.ShloMosaic

/-- The word of positive infinity is `⊤`. -/
theorem word_inf : Ideal.ofBits .f32 0x7F800000#32 = (⊤ : EReal) := by
  simp [Ideal.ofBits, Ideal.ieee]

/-- The word of zero is `0`. -/
theorem word_zero : Ideal.ofBits .f32 0x00000000#32 = (0 : EReal) := by
  simp [Ideal.ofBits, Ideal.ieee]

/-- The word of `8.0`, by which the reference divides. -/
theorem word_eight : Ideal.ofBits .f32 0x41000000#32 = ((8 : ℝ) : EReal) := by
  simp [Ideal.ofBits, Ideal.ieee, -EReal.coe_mul]; norm_num

/-- The word of `0.125`, by which the kernel multiplies. -/
theorem word_eighth : Ideal.ofBits .f32 0x3E000000#32 = ((1 / 8 : ℝ) : EReal) := by
  simp [Ideal.ofBits, Ideal.ieee, -EReal.coe_mul]; norm_num

/-- The word of `2.0` is a real number. -/
theorem word_two : ∃ r : ℝ, Ideal.ofBits .f32 0x40000000#32 = (r : EReal) := by
  simp [Ideal.ofBits, Ideal.ieee, -EReal.coe_mul]

/-- The factor of the difference of the feature sums is a real number. -/
theorem word_slope : ∃ r : ℝ, Ideal.ofBits .f32 0x360637BD#32 = (r : EReal) := by
  simp [Ideal.ofBits, Ideal.ieee, -EReal.coe_mul]

/-- The constant added under the root is a real number. -/
theorem word_shift : ∃ r : ℝ, Ideal.ofBits .f32 0x2E8CBCCC#32 = (r : EReal) := by
  simp [Ideal.ofBits, Ideal.ieee, -EReal.coe_mul]

end Cert.Dtw
-- ==== Proof.Window.lean ====
/- The kernel's running minimum over a chunk of 128 lanes, as a minimum over the lanes to the left. -/
module

public import proofs.«01_k».proof.Proof.Consts
public import proofs.«01_k».proof.Proof.Gen.KernelIdeal.Skeleton
public import Idealize.ShloMosaic.Lib.Pointwise

@[expose] public section

noncomputable section

namespace Cert.Dtw

open Idealize.ShloMosaic Cert.KernelIdeal Cert.KernelIdeal.Gen

/-- The value a shift fills in with, which stands for infinity. -/
def far : Ideal .f32 := Named.named κ "far" 0x7F61B1E6#32

/-- It is `⊤`. -/
theorem far_eq : far = (⊤ : EReal) := IdealRules.named_const.ideal_named_scalar _ _ _ _ rfl

/-- A chunk moved `s` lanes to the right. -/
def moved (s r : ℕ) (hs : S8x128.Slices ![0, 0] ⟨2, ![8, r]⟩)
    (hc : Shape.Concatenates [⟨2, ![8, s]⟩, ⟨2, ![8, r]⟩] S8x128 1) (T : FVec Ideal S8x128 .f32) : FVec Ideal S8x128 .f32 :=
  concatenate S8x128 1 [⟨⟨2, ![8, s]⟩, broadcast ⟨2, ![8, s]⟩ far⟩,
    ⟨⟨2, ![8, r]⟩, extractStridedSlice ⟨2, ![8, r]⟩ ![0, 0] T hs⟩] hc

/-- A sequence moved `s` places to the right, with `⊤` in front. -/
def sh (s : ℕ) (f : ℕ → EReal) (l : ℕ) : EReal := if l < s then ⊤ else f (l - s)

/-- The rows of `T` are the sequences `f`. -/
def IsRows {n : ℕ} (T : (⟨2, ![8, n]⟩ : Shape).Idx → EReal) (f : Fin 8 → ℕ → EReal) : Prop :=
  ∀ (b : Fin 8) (l : Fin n), T (ix2 b l) = f b l.val

/-- Moving a chunk moves its rows. -/
theorem moved_rows {s r : ℕ} (hs : S8x128.Slices ![0, 0] ⟨2, ![8, r]⟩)
    (hc : Shape.Concatenates [⟨2, ![8, s]⟩, ⟨2, ![8, r]⟩] S8x128 1) {T : FVec Ideal S8x128 .f32} {f : Fin 8 → ℕ → EReal}
    (hT : IsRows T f) : IsRows (moved s r hs hc T) fun b => sh s (f b) := by
  intro b l
  unfold moved sh
  pointwise
  by_cases h : l.val < s
  · rw [dif_pos h, if_pos h, far_eq]
  · have hl := l.isLt
    rw [dif_neg h, if_neg h]
    refine Eq.trans (congrArg T (funext fun a => Fin.ext ?_)) (hT b ⟨l.val - s, by omega⟩)
    match a with
    | ⟨0, _⟩ => rfl
    | ⟨1, _⟩ => rfl

/-- The least of twelve values, as the kernel pairs them. -/
def tree12 (g : ℕ → EReal) : EReal :=
  min (min (min (min (g 0) (g 1)) (min (g 2) (g 3))) (min (min (g 4) (g 5)) (min (g 6) (g 7))))
    (min (min (g 8) (g 9)) (min (g 10) (g 11)))

/-- The least of eleven values, as the kernel pairs them. -/
def tree11 (g : ℕ → EReal) : EReal :=
  min (min (min (min (g 0) (g 1)) (min (g 2) (g 3))) (min (min (g 4) (g 5)) (min (g 6) (g 7))))
    (min (min (g 8) (g 9)) (g 10))

/-- What is below the least of twelve values is below each. -/
theorem le_tree12 (g : ℕ → EReal) (a : EReal) : a ≤ tree12 g ↔ ∀ s < 12, a ≤ g s := by
  unfold tree12
  simp only [le_min_iff]
  constructor
  · rintro ⟨⟨⟨⟨h0, h1⟩, h2, h3⟩, ⟨h4, h5⟩, h6, h7⟩, ⟨h8, h9⟩, h10, h11⟩ s hs
    interval_cases s <;> assumption
  · intro h
    refine ⟨⟨⟨⟨h 0 ?_, h 1 ?_⟩, h 2 ?_, h 3 ?_⟩, ⟨h 4 ?_, h 5 ?_⟩, h 6 ?_, h 7 ?_⟩, ⟨h 8 ?_, h 9 ?_⟩, h 10 ?_, h 11 ?_⟩ <;> omega

/-- What is below the least of eleven values is below each. -/
theorem le_tree11 (g : ℕ → EReal) (a : EReal) : a ≤ tree11 g ↔ ∀ s < 11, a ≤ g s := by
  unfold tree11
  simp only [le_min_iff]
  constructor
  · rintro ⟨⟨⟨⟨h0, h1⟩, h2, h3⟩, ⟨h4, h5⟩, h6, h7⟩, ⟨h8, h9⟩, h10⟩ s hs
    interval_cases s <;> assumption
  · intro h
    refine ⟨⟨⟨⟨h 0 ?_, h 1 ?_⟩, h 2 ?_, h 3 ?_⟩, ⟨h 4 ?_, h 5 ?_⟩, h 6 ?_, h 7 ?_⟩, ⟨h 8 ?_, h 9 ?_⟩, h 10 ?_⟩ <;> omega

/-- What is below a moved sequence at a place is below the value it came from, if there is one. -/
theorem le_sh (s : ℕ) (f : ℕ → EReal) (l : ℕ) (a : EReal) : a ≤ sh s f l ↔ (s ≤ l → a ≤ f (l - s)) := by
  unfold sh
  by_cases h : l < s
  · rw [if_pos h]; exact ⟨fun _ h' => absurd h' (by omega), fun _ => le_top⟩
  · rw [if_neg h]; exact ⟨fun h' _ => h', fun h' => h' (by omega)⟩

/-- Twelve moves by `0 … 11`, then eleven by `1, 13, …, 121`: the minimum of all the values to the left. -/
theorem trees (f : ℕ → EReal) (l : ℕ) (hl : l < 128) :
    tree11 (fun k => sh (1 + 12 * k) (fun n => tree12 fun s => sh s f n) l) = (Finset.range l).inf f := by
  refine eq_of_forall_le_iff fun a => ?_
  simp only [le_tree11, le_tree12, le_sh, Finset.le_inf_iff, Finset.mem_range]
  constructor
  · intro h m hm
    have := h ((l - 1 - m) / 12) (by omega) (by omega) ((l - 1 - m) % 12) (by omega) (by omega)
    rwa [show l - (1 + 12 * ((l - 1 - m) / 12)) - (l - 1 - m) % 12 = m by omega] at this
  · intro h k _ _ s _ _
    exact h _ (by omega)

/-- A chunk's minimum over the twelve lanes that end at each lane. -/
def window (T : FVec Ideal S8x128 .f32) : FVec Ideal S8x128 .f32 :=
  minimumf
    (minimumf
      (minimumf
        (minimumf T (moved 1 127 slices_S8x128_o0_0_S8x127 concatenates_S8x1_S8x127_S8x128_d1 T))
        (minimumf (moved 2 126 slices_S8x128_o0_0_S8x126 concatenates_S8x2_S8x126_S8x128_d1 T)
          (moved 3 125 slices_S8x128_o0_0_S8x125 concatenates_S8x3_S8x125_S8x128_d1 T)))
      (minimumf
        (minimumf (moved 4 124 slices_S8x128_o0_0_S8x124 concatenates_S8x4_S8x124_S8x128_d1 T)
          (moved 5 123 slices_S8x128_o0_0_S8x123 concatenates_S8x5_S8x123_S8x128_d1 T))
        (minimumf (moved 6 122 slices_S8x128_o0_0_S8x122 concatenates_S8x6_S8x122_S8x128_d1 T)
          (moved 7 121 slices_S8x128_o0_0_S8x121 concatenates_S8x7_S8x121_S8x128_d1 T))))
    (minimumf
      (minimumf (moved 8 120 slices_S8x128_o0_0_S8x120 concatenates_S8x8_S8x120_S8x128_d1 T)
        (moved 9 119 slices_S8x128_o0_0_S8x119 concatenates_S8x9_S8x119_S8x128_d1 T))
      (minimumf (moved 10 118 slices_S8x128_o0_0_S8x118 concatenates_S8x10_S8x118_S8x128_d1 T)
        (moved 11 117 slices_S8x128_o0_0_S8x117 concatenates_S8x11_S8x117_S8x128_d1 T)))

/-- The least of eleven moves of a chunk, by `1, 13, …, 121`. -/
def strides (T : FVec Ideal S8x128 .f32) : FVec Ideal S8x128 .f32 :=
  minimumf
    (minimumf
      (minimumf
        (minimumf (moved 1 127 slices_S8x128_o0_0_S8x127 concatenates_S8x1_S8x127_S8x128_d1 T)
          (moved 13 115 slices_S8x128_o0_0_S8x115 concatenates_S8x13_S8x115_S8x128_d1 T))
        (minimumf (moved 25 103 slices_S8x128_o0_0_S8x103 concatenates_S8x25_S8x103_S8x128_d1 T)
          (moved 37 91 slices_S8x128_o0_0_S8x91 concatenates_S8x37_S8x91_S8x128_d1 T)))
      (minimumf
        (minimumf (moved 49 79 slices_S8x128_o0_0_S8x79 concatenates_S8x49_S8x79_S8x128_d1 T)
          (moved 61 67 slices_S8x128_o0_0_S8x67 concatenates_S8x61_S8x67_S8x128_d1 T))
        (minimumf (moved 73 55 slices_S8x128_o0_0_S8x55 concatenates_S8x73_S8x55_S8x128_d1 T)
          (moved 85 43 slices_S8x128_o0_0_S8x43 concatenates_S8x85_S8x43_S8x128_d1 T))))
    (minimumf
      (minimumf (moved 97 31 slices_S8x128_o0_0_S8x31 concatenates_S8x97_S8x31_S8x128_d1 T)
        (moved 109 19 slices_S8x128_o0_0_S8x19 concatenates_S8x109_S8x19_S8x128_d1 T))
      (moved 121 7 slices_S8x128_o0_0_S8x7 concatenates_S8x121_S8x7_S8x128_d1 T))

/-- The minimum of two arrays at an index. -/
theorem min_at {S : Shape} {A B : FVec Ideal S .f32} {i : S.Idx} {x y : EReal} (hA : A i = x) (hB : B i = y) :
    minimumf A B i = min x y := congrArg₂ min hA hB

/-- The rows of the twelve-lane minimum. -/
theorem window_rows {T : FVec Ideal S8x128 .f32} {f : Fin 8 → ℕ → EReal} (hT : IsRows T f) :
    IsRows (window T) fun b n => tree12 fun s => sh s (f b) n := by
  intro b l
  have h0 : T (ix2 b l) = sh 0 (f b) l.val := hT b l
  exact min_at
    (min_at (min_at (min_at h0 (moved_rows _ _ hT b l)) (min_at (moved_rows _ _ hT b l) (moved_rows _ _ hT b l)))
      (min_at (min_at (moved_rows _ _ hT b l) (moved_rows _ _ hT b l))
        (min_at (moved_rows _ _ hT b l) (moved_rows _ _ hT b l))))
    (min_at (min_at (moved_rows _ _ hT b l) (moved_rows _ _ hT b l))
      (min_at (moved_rows _ _ hT b l) (moved_rows _ _ hT b l)))

/-- The rows of the strided minimum. -/
theorem strides_rows {T : FVec Ideal S8x128 .f32} {f : Fin 8 → ℕ → EReal} (hT : IsRows T f) :
    IsRows (strides T) fun b n => tree11 fun k => sh (1 + 12 * k) (f b) n := by
  intro b l
  exact min_at
    (min_at (min_at (min_at (moved_rows _ _ hT b l) (moved_rows _ _ hT b l))
        (min_at (moved_rows _ _ hT b l) (moved_rows _ _ hT b l)))
      (min_at (min_at (moved_rows _ _ hT b l) (moved_rows _ _ hT b l))
        (min_at (moved_rows _ _ hT b l) (moved_rows _ _ hT b l))))
    (min_at (min_at (moved_rows _ _ hT b l) (moved_rows _ _ hT b l)) (moved_rows _ _ hT b l))

/-- The running minimum of a chunk: at each lane, the minimum of the lanes to its left. -/
theorem prefix_rows {T : FVec Ideal S8x128 .f32} {f : Fin 8 → ℕ → EReal} (hT : IsRows T f) :
    IsRows (strides (window T)) fun b l => (Finset.range l).inf (f b) := fun b l =>
  (strides_rows (window_rows hT) b l).trans (trees (f b) l.val l.isLt)

end Cert.Dtw
-- ==== Proof.KernelRow.lean ====
/- One trip of the kernel's loop: the new row from the row above and the running sums of the costs. -/
module

public import proofs.«01_k».proof.Proof.Window

@[expose] public section

noncomputable section

namespace Cert.Dtw

open Idealize.ShloMosaic Cert.KernelIdeal Cert.KernelIdeal.Gen

/-- The minimum of each row of a chunk. -/
def chunkMin (T : FVec Ideal S8x128 .f32) : FVec Ideal S8x1 .f32 :=
  shapeCast S8x1 (multiReduction .minimumf [1] S8 T 0x7F800000#32 reduces_S8x128_S8 (.inl rfl) rfl) shapeCasts_S8_S8x1

/-- A fold of `min` from `⊤` over the lanes of a chunk is the infimum of its first 128 values. -/
theorem fold_inf {n : ℕ} (f : ℕ → EReal) : (Finset.univ.fold min ⊤ fun k : Fin n => f k.val) = (Finset.range n).inf f := by
  refine eq_of_forall_le_iff fun a => ?_
  rw [Finset.le_fold_min]
  simp only [Finset.le_inf_iff, Finset.mem_range, le_top, true_and, Finset.mem_univ, forall_const]
  exact ⟨fun h k hk => h ⟨k, hk⟩, fun h k => h k.val k.isLt⟩

/-- The chunk's minimum is the infimum of its lanes. -/
theorem chunkMin_at {T : FVec Ideal S8x128 .f32} {f : Fin 8 → ℕ → EReal} (hT : IsRows T f) (b : Fin 8) :
    chunkMin T (ix2 b 0) = (Finset.range 128).inf (f b) := by
  rw [← fold_inf, ← word_inf]
  unfold chunkMin
  pointwise
  exact Finset.fold_congr fun l _ => hT b l

/-- Four neighbouring chunks as one row. -/
theorem joined_at (A B C D : FVec Ideal S8x128 .f32)
    (b : Fin 8) (j : Fin 512) (q : ℕ) (l : Fin 128) (hj : j.val = 128 * q + l.val) :
    concatenate S8x512 1 [⟨S8x128, A⟩, ⟨S8x128, B⟩, ⟨S8x128, C⟩, ⟨S8x128, D⟩]
      concatenates_S8x128_S8x128_S8x128_S8x128_S8x512_d1 (ix2 b j)
      = if q = 0 then A (ix2 b l) else if q = 1 then B (ix2 b l) else if q = 2 then C (ix2 b l) else D (ix2 b l) := by
  have hl := l.isLt
  have hlt := j.isLt
  have e : ∀ (T : FVec Ideal S8x128 .f32) (n : ℕ) (hn : n < 128), n = l.val → T (ix2 b ⟨n, hn⟩) = T (ix2 b l) := by
    rintro T n hn rfl
    rfl
  pointwise
  rcases (by omega : q = 0 ∨ q = 1 ∨ q = 2 ∨ q = 3) with rfl | rfl | rfl | rfl
  · rw [dif_pos (by omega)]
    exact e A _ _ (by omega)
  · rw [dif_neg (by omega), dif_pos (by omega)]
    exact e B _ _ (by omega)
  · rw [dif_neg (by omega), dif_neg (by omega), dif_pos (by omega)]
    exact e C _ _ (by omega)
  · rw [dif_neg (by omega), dif_neg (by omega), dif_neg (by omega)]
    exact e D _ _ (by omega)

/-- The new row from the running sums `c` and `e` of the costs and the row `p` above. -/
def rowVec (c e p : FVec Ideal S8x512 .f32) : FVec Ideal S8x512 .f32 :=
  let t := subf p c
  let w := subf p e
  let t₀ := extractStridedSlice S8x128 ![0, 0] t slices_S8x512_o0_0_S8x128
  let t₁ := extractStridedSlice S8x128 ![0, 128] t slices_S8x512_o0_128_S8x128
  let t₂ := extractStridedSlice S8x128 ![0, 256] t slices_S8x512_o0_256_S8x128
  let t₃ := extractStridedSlice S8x128 ![0, 384] t slices_S8x512_o0_384_S8x128
  let m₀ := chunkMin t₀
  let m₁ := minimumf m₀ (chunkMin t₁)
  let m₂ := minimumf m₁ (chunkMin t₂)
  concatenate S8x512 1
    [⟨S8x128, addf (extractStridedSlice S8x128 ![0, 0] c slices_S8x512_o0_0_S8x128)
      (minimumf (extractStridedSlice S8x128 ![0, 0] w slices_S8x512_o0_0_S8x128) (strides (window t₀)))⟩,
    ⟨S8x128, addf (extractStridedSlice S8x128 ![0, 128] c slices_S8x512_o0_128_S8x128)
      (minimumf (extractStridedSlice S8x128 ![0, 128] w slices_S8x512_o0_128_S8x128)
        (minimumf (strides (window t₁)) (broadcastTo S8x128 m₀ broadcasts_S8x1_S8x128)))⟩,
    ⟨S8x128, addf (extractStridedSlice S8x128 ![0, 256] c slices_S8x512_o0_256_S8x128)
      (minimumf (extractStridedSlice S8x128 ![0, 256] w slices_S8x512_o0_256_S8x128)
        (minimumf (strides (window t₂)) (broadcastTo S8x128 m₁ broadcasts_S8x1_S8x128)))⟩,
    ⟨S8x128, addf (extractStridedSlice S8x128 ![0, 384] c slices_S8x512_o0_384_S8x128)
      (minimumf (extractStridedSlice S8x128 ![0, 384] w slices_S8x512_o0_384_S8x128)
        (minimumf (strides (window t₃)) (broadcastTo S8x128 m₂ broadcasts_S8x1_S8x128)))⟩]
    concatenates_S8x128_S8x128_S8x128_S8x128_S8x512_d1

/-- A chunk of a row of 512 entries. -/
theorem slice_rows {o : ℕ} (ho : o + 128 ≤ 512) (h : S8x512.Slices ![0, o] S8x128) {T : FVec Ideal S8x512 .f32}
    {f : Fin 8 → ℕ → EReal} (hT : IsRows T f) :
    IsRows (extractStridedSlice S8x128 ![0, o] T h) fun b l => f b (o + l) := by
  intro b l
  refine Eq.trans ?_ (hT b ⟨o + l.val, by have := l.isLt; omega⟩)
  pointwise

/-- A column repeated over the lanes of a chunk. -/
theorem spread_at (m : FVec Ideal S8x1 .f32) (b : Fin 8) (l : Fin 128) :
    broadcastTo S8x128 m broadcasts_S8x1_S8x128 (ix2 b l) = m (ix2 b 0) := by
  pointwise

/-- The first `n` values of a sequence and the next `l` of it. -/
theorem inf_split (f : ℕ → EReal) (n l : ℕ) :
    min ((Finset.range l).inf fun k => f (n + k)) ((Finset.range n).inf f) = (Finset.range (n + l)).inf f := by
  refine eq_of_forall_le_iff fun a => ?_
  simp only [le_min_iff, Finset.le_inf_iff, Finset.mem_range]
  constructor
  · rintro ⟨h₁, h₂⟩ k hk
    by_cases hn : k < n
    · exact h₂ k hn
    · have := h₁ (k - n) (by omega)
      rwa [show n + (k - n) = k by omega] at this
  · exact fun h => ⟨fun k hk => h _ (by omega), fun k hk => h _ (by omega)⟩

/-- The minimum of one more chunk. -/
theorem min_chunks (f : ℕ → EReal) (n : ℕ) :
    min ((Finset.range n).inf f) ((Finset.range 128).inf fun k => f (n + k)) = (Finset.range (n + 128)).inf f := by
  rw [min_comm, inf_split]

/-- An entry of the new row: its running sum of costs plus the lesser of the step from above and the best of the entries
to the left. -/
theorem rowVec_at {c e p : FVec Ideal S8x512 .f32} {fc fe fp : Fin 8 → ℕ → EReal} (hc : IsRows c fc) (he : IsRows e fe)
    (hp : IsRows p fp) (b : Fin 8) (j : Fin 512) :
    rowVec c e p (ix2 b j)
      = fc b j.val + min (fp b j.val - fe b j.val) ((Finset.range j.val).inf fun k => fp b k - fc b k) := by
  have hj := j.isLt
  have hr : j.val % 128 < 128 := Nat.mod_lt _ (by omega)
  obtain ⟨q, l, hq, hjl⟩ : ∃ (q : ℕ) (l : Fin 128), q < 4 ∧ j.val = 128 * q + l.val :=
    ⟨j.val / 128, ⟨j.val % 128, hr⟩, by omega, by show j.val = 128 * (j.val / 128) + j.val % 128; omega⟩
  have ht : IsRows (subf p c) fun b k => fp b k - fc b k := fun b l => by
    show p (ix2 b l) - c (ix2 b l) = _
    rw [hp, hc]
  have hw : IsRows (subf p e) fun b k => fp b k - fe b k := fun b l => by
    show p (ix2 b l) - e (ix2 b l) = _
    rw [hp, he]
  have t₀ := slice_rows (o := 0) (by omega) slices_S8x512_o0_0_S8x128 ht
  have t₁ := slice_rows (o := 128) (by omega) slices_S8x512_o0_128_S8x128 ht
  have t₂ := slice_rows (o := 256) (by omega) slices_S8x512_o0_256_S8x128 ht
  have t₃ := slice_rows (o := 384) (by omega) slices_S8x512_o0_384_S8x128 ht
  have m₀ := chunkMin_at t₀ b
  have m₁ := min_at m₀ (chunkMin_at t₁ b)
  have m₂ := min_at m₁ (chunkMin_at t₂ b)
  simp only [Nat.zero_add] at m₀ m₁ m₂
  rw [min_chunks (fun k => fp b k - fc b k) 128] at m₁ m₂
  rw [min_chunks (fun k => fp b k - fc b k) (128 + 128)] at m₂
  unfold rowVec
  refine (joined_at _ _ _ _ b j q l hjl).trans ?_
  rw [hjl]
  rcases (by omega : q = 0 ∨ q = 1 ∨ q = 2 ∨ q = 3) with rfl | rfl | rfl | rfl
  · rw [if_pos rfl]
    refine congrArg₂ (· + ·) (slice_rows (o := 0) (by omega) _ hc b l)
      (min_at (slice_rows (o := 0) (by omega) _ hw b l) ((prefix_rows t₀ b l).trans ?_))
    simp only [Nat.mul_zero, Nat.zero_add]
  · rw [if_neg (by omega), if_pos rfl]
    exact congrArg₂ (· + ·) (slice_rows (o := 128) (by omega) _ hc b l)
      (min_at (slice_rows (o := 128) (by omega) _ hw b l)
        ((min_at (prefix_rows t₁ b l) ((spread_at _ b l).trans m₀)).trans
          (inf_split (fun k => fp b k - fc b k) 128 l.val)))
  · rw [if_neg (by omega), if_neg (by omega), if_pos rfl]
    exact congrArg₂ (· + ·) (slice_rows (o := 256) (by omega) _ hc b l)
      (min_at (slice_rows (o := 256) (by omega) _ hw b l)
        ((min_at (prefix_rows t₂ b l) ((spread_at _ b l).trans m₁)).trans
          (inf_split (fun k => fp b k - fc b k) 256 l.val)))
  · rw [if_neg (by omega), if_neg (by omega), if_neg (by omega)]
    exact congrArg₂ (· + ·) (slice_rows (o := 384) (by omega) _ hc b l)
      (min_at (slice_rows (o := 384) (by omega) _ hw b l)
        ((min_at (prefix_rows t₃ b l) ((spread_at _ b l).trans m₂)).trans
          (inf_split (fun k => fp b k - fc b k) 384 l.val)))

/-- The kernel's row of costs, loaded out of the stack of rows, as a matrix. -/
abbrev flat (v : Vec Ideal S1x8x512 .f32) : FVec Ideal S8x512 .f32 := shapeCast S8x512 v shapeCasts_S1x8x512_S8x512

end Cert.Dtw
-- ==== Proof.Cost.lean ====
/- The cost of matching two frames, as the kernel and as the reference compute it, and the kernel's sums of a row's costs
   before each place. -/
module

public import proofs.«01_k».proof.Defs
public import proofs.«01_k».proof.Proof.Gen.KernelIdeal.Skeleton
public import proofs.«01_k».proof.Proof.Gen.ReferenceIdeal.Step
public import Idealize.ShloMosaic.Lib.Pointwise

@[expose] public section

noncomputable section

namespace Cert.Dtw

open Idealize.ShloMosaic

/-- A batch of 8 sequences of 512 frames of 64 features, over the extended reals. -/
abbrev Frames := FVec Ideal Cert.KernelIdeal.S8x512x64 .f32

/-- The distance of frame `i` of `x` to frame `j` of `y` in batch entry `b`, as both programs spell it. -/
def costE (x y : Frames) (b : Fin 8) (i j : Fin 512) : EReal :=
  Ideal.sqrt (max (((∑ k : Fin 64, x (ix3 b i k) * x (ix3 b i k)) + (∑ k : Fin 64, y (ix3 b j k) * y (ix3 b j k))
      - Ideal.ofBits .f32 0x40000000#32 * (∑ k : Fin 64, x (ix3 b i k) * y (ix3 b j k)))
      + Ideal.ofBits .f32 0x360637BD#32 * ((∑ k : Fin 64, x (ix3 b i k)) - (∑ k : Fin 64, y (ix3 b j k)))
      + Ideal.ofBits .f32 0x2E8CBCCC#32) 0)

open Cert.ReferenceIdeal.Step in
/-- The reference's array of distances holds the costs. -/
theorem ref_cost (x y : Frames) (b : Fin 8) (i j : Fin 512) :
    A_main_v27 (F := Ideal) x y (ix3 b i j) = costE x y b i j := by
  unfold A_main_v27 A_main_v26 A_main_v24 A_main_v22 A_main_v21 A_main_v19 A_main_v18 A_main_v17 A_main_v16
    A_main_v15 A_main_v14 A_main_v13 A_main_v11 A_main_v10 A_main_v9 A_main_v8 A_main_v7 A_main_v6 A_main_v5
    A_main_v4 A_main_v3 A_main_v2 A_main_v1 A_main_v0 K_main_v12 K_main_v20 K_main_v23 K_main_v25 K_main_cst
    K_main_cst_0 K_main_cst_1 K_main_cst_2 K_main_cst_3 K_main_cst_4 K_main_cst_5 K_main_cst_6 costE
  pointwise [Cert.ReferenceIdeal.dot_S8x512x64_S8x512x64_S8x512x512_2_2_1_1_0_0]

open Cert.KernelIdeal.Gen Cert.KernelIdeal in
/-- The kernel's distances of two blocks of frames, which are those of batch entry `b`, are the costs of that entry. -/
theorem kernel_cost (u v : FVec Ideal S1x512x64 .f32) (i j : Fin 512) (x y : Frames) (b : Fin 8)
    (hu : ∀ i k, u (ix3 0 i k) = x (ix3 b i k)) (hv : ∀ i k, v (ix3 0 i k) = y (ix3 b i k)) :
    k0_pay90 (F := Ideal) u v (ix2 i j) = costE x y b i j := by
  unfold k0_pay90 costE
  pointwise [dot_S512x64_S512x64_S512x512_1_1_0_0_n_n]
  simp only [hu, hv]

/-- Choosing by the comparison of two 32-bit indices below 512 is choosing by the comparison of the indices. -/
theorem select_slt {p q : ℕ} (hp : p < 512) (hq : q < 512) (u v : EReal) :
    Scalar.select (IntOp.cmpi CmpIPredicate.slt (BitVec.ofNat 32 p) (BitVec.ofNat 32 q)) u v
      = if p < q then u else v := by
  have h : (BitVec.ofNat 32 p).slt (BitVec.ofNat 32 q) = decide (p < q) := by
    have e : ∀ n : ℕ, n < 512 → (BitVec.ofNat 32 n).toInt = n := fun n hn => by
      rw [BitVec.toInt_eq_toNat_of_lt (by rw [BitVec.toNat_ofNat]; omega), BitVec.toNat_ofNat,
        Nat.mod_eq_of_lt (by omega)]
    rw [BitVec.slt_eq_decide, e p hp, e q hq]
    simp only [Nat.cast_lt]
  simp only [Scalar.select, IntOp.cmpi, h]
  by_cases hpq : p < q <;> simp [hpq]

open Cert.KernelIdeal.Gen Cert.KernelIdeal in
/-- The kernel's product with the strictly triangular mask sums, at each place, the costs of the places before it. -/
theorem kernel_prefix (u v : FVec Ideal S1x512x64 .f32) (i j : Fin 512) :
    k0_pay91 (F := Ideal) u v (ix2 i j)
      = ∑ k : Fin 512, if k.val < j.val then k0_pay90 (F := Ideal) u v (ix2 i k) else 0 := by
  unfold k0_pay91 k0_pay89
  pointwise [dot_S512x512_S512x512_S512x512_1_0_0_1_n_n]
  exact Finset.sum_congr rfl fun k _ => select_slt k.isLt j.isLt _ _

end Cert.Dtw
-- ==== Proof.CostReal.lean ====
/- The costs are nonnegative real numbers when both arrays of frames are finite. -/
module

public import proofs.«01_k».proof.Proof.Consts
public import proofs.«01_k».proof.Proof.Cost

@[expose] public section

noncomputable section

namespace Cert.Dtw

open Idealize.ShloMosaic

/-- The costs are the real numbers `d`. -/
def IsCost (x y : Frames) (d : Fin 8 → ℕ → ℕ → ℝ) : Prop :=
  ∀ (b : Fin 8) (i j : Fin 512), costE x y b i j = (d b i.val j.val : EReal)

/-- A finite sum of real numbers, taken over the extended reals, is the real sum. -/
theorem coe_sum {n : ℕ} (f : Fin n → ℝ) : (∑ k, (f k : EReal)) = ((∑ k, f k : ℝ) : EReal) := by
  induction n with
  | zero => simp
  | succ n ih => rw [Fin.sum_univ_succ, Fin.sum_univ_succ, ih, EReal.coe_add]

/-- Of real frames every cost is a nonnegative real number. -/
theorem cost_real (u v : Cert.KernelIdeal.S8x512x64.Idx → ℝ) (b : Fin 8) (i j : Fin 512) :
    ∃ r : ℝ, 0 ≤ r ∧ costE (fun a => (u a : EReal)) (fun a => (v a : EReal)) b i j = (r : EReal) := by
  obtain ⟨c₂, h₂⟩ := word_two
  obtain ⟨c₁, h₁⟩ := word_slope
  obtain ⟨c₀, h₀⟩ := word_shift
  unfold costE
  rw [h₀, h₁, h₂]
  simp only [← EReal.coe_mul, coe_sum, ← EReal.coe_add, ← EReal.coe_sub]
  generalize (((∑ k : Fin 64, u (ix3 b i k) * u (ix3 b i k)) + (∑ k : Fin 64, v (ix3 b j k) * v (ix3 b j k))
      - c₂ * (∑ k : Fin 64, u (ix3 b i k) * v (ix3 b j k)))
      + c₁ * ((∑ k : Fin 64, u (ix3 b i k)) - (∑ k : Fin 64, v (ix3 b j k))) + c₀ : ℝ) = q
  refine ⟨Real.sqrt (max q 0), Real.sqrt_nonneg _, ?_⟩
  rw [← EReal.coe_zero, ← EReal.coe_strictMono.monotone.map_max]
  exact if_neg (not_lt.2 (le_max_right q 0))

/-- The precondition says that both arrays of frames are real. -/
theorem real_of_finite [Cert.Pre_finite.Facts] (x y : Frames)
    (h : Cert.Pre_finite.fn (F := Ideal) x y = fun _ => 1#1) :
    ∃ u v : Cert.KernelIdeal.S8x512x64.Idx → ℝ, x = (fun a => (u a : EReal)) ∧ y = fun a => (v a : EReal) := by
  have key : ∀ r : EReal, max r (-r) < ⊤ → r = ((r.toReal : ℝ) : EReal) := fun r hr => by
    refine (EReal.coe_toReal (fun e => ?_) (fun e => ?_)).symm
    · rw [e] at hr; simp at hr
    · rw [e] at hr; simp at hr
  have both : ∀ a, max (x a) (-(x a)) < ⊤ ∧ max (y a) (-(y a)) < ⊤ := fun a => by
    have := congrFun h a
    unfold Cert.Pre_finite.fn at this
    dsimp only at this
    revert this
    pointwise
    rw [word_inf]
    intro e
    have split : ∀ p q : Bool, IntOp.andi (BitVec.ofBool p) (BitVec.ofBool q) = 1#1 → p = true ∧ q = true := by
      decide
    exact ⟨of_decide_eq_true (split _ _ e).1, of_decide_eq_true (split _ _ e).2⟩
  exact ⟨fun a => (x a).toReal, fun a => (y a).toReal, funext fun a => key _ (both a).1, funext fun a => key _ (both a).2⟩

/-- Of finite frames the costs are nonnegative real numbers. -/
theorem exists_cost [Cert.Pre_finite.Facts] (x y : Frames)
    (h : Cert.Pre_finite.fn (F := Ideal) x y = fun _ => 1#1) :
    ∃ d : Fin 8 → ℕ → ℕ → ℝ, (∀ b i j, 0 ≤ d b i j) ∧ IsCost x y d := by
  obtain ⟨u, v, rfl, rfl⟩ := real_of_finite x y h
  choose r hr he using cost_real u v
  refine ⟨fun b i j => if h : i < 512 ∧ j < 512 then r b ⟨i, h.1⟩ ⟨j, h.2⟩ else 0, fun b i j => ?_, fun b i j => ?_⟩
  · dsimp only
    split
    · exact hr _ _ _
    · exact le_rfl
  · dsimp only
    rw [dif_pos ⟨i.isLt, j.isLt⟩]
    exact he b i j

end Cert.Dtw
-- ==== Proof.Rows.lean ====
/- One row of the time-warping table, in three forms: the recurrence that defines it, the running minimum the
   reference scans, and the shorter running minimum the kernel scans. All over rows of real numbers. -/
module

public import proofs.«01_k».proof.Defs

@[expose] public section

noncomputable section

namespace Cert.Dtw

/-- The sum of the first `n` entries of a row. -/
def cum (d : ℕ → ℝ) (n : ℕ) : ℝ := ∑ k ∈ Finset.range n, d k

/-- One more entry of the sum. -/
theorem cum_succ (d : ℕ → ℝ) (n : ℕ) : cum d (n + 1) = cum d n + d n := Finset.sum_range_succ _ _

/-- The next row of the table from the costs `d` of that row and the row `p` above it: an entry is its cost plus
    the least of the entry above, the entry above and to the left, and the entry to the left. -/
def nextRow (d p : ℕ → ℝ) : ℕ → ℝ
  | 0 => d 0 + p 0
  | j + 1 => d (j + 1) + min (min (p (j + 1)) (p j)) (nextRow d p j)

/-- The table: its first row is the running sum of the costs. -/
def table (d : ℕ → ℕ → ℝ) : ℕ → ℕ → ℝ
  | 0 => fun j => cum (d 0) (j + 1)
  | i + 1 => nextRow (d (i + 1)) (table d i)

/-- The least of the first `n + 1` values of a sequence. -/
def least (r : ℕ → ℝ) : ℕ → ℝ
  | 0 => r 0
  | n + 1 => min (least r n) (r (n + 1))

/-- A finite infimum of real values is their least, as a real. -/
theorem inf_coe (r : ℕ → ℝ) (n : ℕ) :
    (Finset.range (n + 1)).inf (fun k => (r k : EReal)) = (least r n : EReal) := by
  induction n with
  | zero => simp [least]
  | succ n ih =>
    rw [Finset.range_add_one, Finset.inf_insert, ih, inf_comm]
    exact (EReal.coe_strictMono.monotone.map_min).symm

/-- The kernel's running minimum plus the running sum is the lesser of the entry above and the new entry. -/
theorem least_kernel (d p : ℕ → ℝ) (hd : ∀ k, 0 ≤ d k) (j : ℕ) :
    cum d (j + 1) + least (fun k => p k - cum d (k + 1)) j = min (p j) (nextRow d p j) := by
  induction j with
  | zero =>
    have := hd 0
    simp only [least, nextRow]
    rw [min_eq_left (by linarith)]
    ring
  | succ j ih =>
    have h := hd (j + 1)
    simp only [least, nextRow]
    rw [← min_add_add_left, cum_succ d (j + 1), add_right_comm, ih, add_comm _ (d (j + 1)), ← min_add_add_left,
      ← min_add_add_left, ← min_add_add_left]
    have e : cum d (j + 1) + d (j + 1) + (p (j + 1) - (cum d (j + 1) + d (j + 1))) = p (j + 1) := by ring
    have e' : min (p (j + 1)) (d (j + 1) + p (j + 1)) = p (j + 1) := min_eq_left (by linarith)
    rw [e, min_assoc (d (j + 1) + p (j + 1)), ← min_assoc (p (j + 1)), e', min_comm]

/-- The kernel's form of a new entry, over the extended reals. -/
theorem kernel_row (d p : ℕ → ℝ) (hd : ∀ k, 0 ≤ d k) (j : ℕ) :
    (cum d (j + 1) : EReal) + min ((p j : EReal) - (cum d j : EReal))
      ((Finset.range j).inf fun k => (p k : EReal) - (cum d (k + 1) : EReal)) = (nextRow d p j : EReal) := by
  cases j with
  | zero =>
    rw [Finset.range_zero, Finset.inf_empty, min_eq_left le_top, cum_succ]
    simp [cum, nextRow]
  | succ j =>
    have h := least_kernel d p hd j
    simp only [← EReal.coe_sub]
    rw [inf_coe (fun k => p k - cum d (k + 1)) j, ← EReal.coe_strictMono.monotone.map_min, ← EReal.coe_add]
    congr 1
    simp only [nextRow]
    have e₁ : cum d (j + 1 + 1) + (p (j + 1) - cum d (j + 1)) = d (j + 1) + p (j + 1) := by
      rw [cum_succ d (j + 1)]; ring
    have e₂ : cum d (j + 1 + 1) + least (fun k => p k - cum d (k + 1)) j
        = d (j + 1) + (cum d (j + 1) + least (fun k => p k - cum d (k + 1)) j) := by
      rw [cum_succ d (j + 1)]; ring
    rw [← min_add_add_left, e₁, e₂, h, min_add_add_left, min_assoc]

/-- The reference's term at column `k`: the cost plus the lesser of the two entries above, less the running sum. -/
def refTerm (d p : ℕ → ℝ) : ℕ → ℝ
  | 0 => d 0 + p 0 - cum d 1
  | k + 1 => d (k + 1) + min (p (k + 1)) (p k) - cum d (k + 2)

/-- The reference's running minimum plus the running sum is the new entry. -/
theorem least_ref (d p : ℕ → ℝ) (j : ℕ) : cum d (j + 1) + least (refTerm d p) j = nextRow d p j := by
  induction j with
  | zero => simp only [least, refTerm, nextRow]; ring
  | succ j ih =>
    simp only [least, refTerm, nextRow]
    rw [← min_add_add_left, cum_succ d (j + 1), add_right_comm, ih, ← ih, min_comm]
    rw [show cum d (j + 1) + d (j + 1) + (d (j + 1) + min (p (j + 1)) (p j) - (cum d (j + 1) + d (j + 1)))
      = d (j + 1) + min (p (j + 1)) (p j) by ring, add_comm (cum d (j + 1) + least _ j), min_add_add_left]

/-- The reference's form of a new entry, over the extended reals. -/
theorem ref_row (d p : ℕ → ℝ) (j : ℕ) :
    (cum d (j + 1) : EReal) + ((Finset.range (j + 1)).inf fun k =>
      ((d k : EReal) + min (p k : EReal) (if k = 0 then ⊤ else (p (k - 1) : EReal))) - (cum d (k + 1) : EReal))
      = (nextRow d p j : EReal) := by
  have e : (fun k => ((d k : EReal) + min (p k : EReal) (if k = 0 then ⊤ else (p (k - 1) : EReal)))
      - (cum d (k + 1) : EReal)) = fun k => (refTerm d p k : EReal) := by
    funext k
    cases k with
    | zero =>
      rw [if_pos rfl, min_eq_left le_top, ← EReal.coe_add, ← EReal.coe_sub]
      rfl
    | succ k =>
      rw [if_neg (Nat.succ_ne_zero k), Nat.add_sub_cancel, ← EReal.coe_strictMono.monotone.map_min, ← EReal.coe_add,
        ← EReal.coe_sub]
      rfl
  rw [e, inf_coe, ← EReal.coe_add, least_ref]

/-- A running sum of real values over the extended reals. -/
theorem sum_coe (d : ℕ → ℝ) (n : ℕ) : (∑ k ∈ Finset.range n, (d k : EReal)) = (cum d n : EReal) := by
  induction n with
  | zero => simp [cum]
  | succ n ih => rw [Finset.sum_range_succ, ih, cum_succ, EReal.coe_add]

end Cert.Dtw
-- ==== Proof.Stack.lean ====
/- The two stacks of running sums that the kernel fills before its loop. -/
module

public import proofs.«01_k».proof.Proof.CostReal
public import proofs.«01_k».proof.Proof.Rows
public import proofs.«01_k».proof.Proof.Gen.KernelIdeal.Frame

@[expose] public section

noncomputable section

namespace Cert.Dtw

open Idealize.ShloMosaic Idealize.SL.Sem Cert.KernelIdeal Cert.KernelIdeal.Gen

/-- The frames of batch entry `b`. -/
def frames (x : Frames) (b : Fin 8) : FVec Ideal S1x512x64 .f32 := fun i => x (ix3 b (i 1) (i 2))

/-- Loading the block of batch entry `b` out of the staged array reads the frames of that entry. -/
theorem load_frames (M : Memref sig .tc .vmem S8x512x64 .f32) (hM : M.IsWhole) (x : Frames) (o : ℕ) (ho : o < 8)
    (inb : ∀ a, (![o, 0, 0] : Fin 3 → ℕ) a + S1x512x64.size a ≤ S8x512x64.size a) :
    View.readAt (Elt Ideal) M.view (Rect.unit (s := S8x512x64) ![o, 0, 0] S1x512x64.size inb).toLoadRect (hM.unread x)
      = frames x ⟨o, ho⟩ := by
  funext i
  rw [View.readAt_apply, hM.read_unread]
  refine congrArg x (funext fun a => Fin.ext ?_)
  match a with
  | ⟨0, _⟩ =>
    have h0 : (i 0).val < 1 := (i 0).isLt
    show o + 1 * (i 0).val = o
    omega
  | ⟨1, _⟩ => show 0 + 1 * (i 1).val = (i 1).val; omega
  | ⟨2, _⟩ => show 0 + 1 * (i 2).val = (i 2).val; omega

/-- Eight planes stored one after the other, the last one first in the list. -/
def planes (P : Fin 8 → FVec Ideal S512x1x512 .f32) : List (View.Piece (Elt Ideal) S512x8x512 .f32) :=
  [⟨Rect.unit ![0, 7, 0] S512x1x512.size inb_S512x8x512_S512x1x512_0_7_0, P 7⟩,
   ⟨Rect.unit ![0, 6, 0] S512x1x512.size inb_S512x8x512_S512x1x512_0_6_0, P 6⟩,
   ⟨Rect.unit ![0, 5, 0] S512x1x512.size inb_S512x8x512_S512x1x512_0_5_0, P 5⟩,
   ⟨Rect.unit ![0, 4, 0] S512x1x512.size inb_S512x8x512_S512x1x512_0_4_0, P 4⟩,
   ⟨Rect.unit ![0, 3, 0] S512x1x512.size inb_S512x8x512_S512x1x512_0_3_0, P 3⟩,
   ⟨Rect.unit ![0, 2, 0] S512x1x512.size inb_S512x8x512_S512x1x512_0_2_0, P 2⟩,
   ⟨Rect.unit ![0, 1, 0] S512x1x512.size inb_S512x8x512_S512x1x512_0_1_0, P 1⟩,
   ⟨Rect.unit ![0, 0, 0] S512x1x512.size inb_S512x8x512_S512x1x512_0_0_0, P 0⟩]

/-- A stack of eight planes reads plane `b` at height `b`. -/
theorem read_planes (M : Memref sig .tc .vmem S512x8x512 .f32) (f : M.view.ty.Contents (Elt Ideal))
    (P : Fin 8 → FVec Ideal S512x1x512 .f32) (i : Fin 512) (b : Fin 8) (j : Fin 512) :
    M.view.read (Elt Ideal) (M.view.writes (Elt Ideal) f (planes P)) (ix3 i b j) = P b (ix3 i 0 j) := by
  refine View.read_writes_apply_of_pieces M.view f (fun y => P (y 1) (ix3 (y 0) 0 (y 2))) (planes P) ?_ (ix3 i b j) ?_
  · have key : ∀ (o : ℕ) (ho : o < 8)
        (inb : ∀ a, (![0, o, 0] : Fin 3 → ℕ) a + S512x1x512.size a ≤ S512x8x512.size a)
        (x : S512x1x512.Idx),
        P ⟨o, ho⟩ x = (fun y : S512x8x512.Idx => P (y 1) (ix3 (y 0) 0 (y 2)))
          ((Rect.unit (s := S512x8x512) ![0, o, 0] S512x1x512.size inb).emb x) := by
      intro o ho inb x
      have h1 : (x 1).val < 1 := (x 1).isLt
      have e1 : ((Rect.unit (s := S512x8x512) ![0, o, 0] S512x1x512.size inb).emb x) 1 = (⟨o, ho⟩ : Fin 8) :=
        Fin.ext (by show o + 1 * (x 1).val = o; omega)
      show P ⟨o, ho⟩ x = P (((Rect.unit (s := S512x8x512) ![0, o, 0] S512x1x512.size inb).emb x) 1) _
      rw [e1]
      refine congrArg (P ⟨o, ho⟩) (funext fun a => Fin.ext ?_)
      match a with
      | ⟨0, _⟩ => show (x 0).val = 0 + 1 * (x 0).val; omega
      | ⟨1, _⟩ => show (x 1).val = 0; omega
      | ⟨2, _⟩ => show (x 2).val = 0 + 1 * (x 2).val; omega
    intro p hp x
    simp only [planes, List.mem_cons, List.not_mem_nil, or_false] at hp
    rcases hp with rfl | rfl | rfl | rfl | rfl | rfl | rfl | rfl
    · exact key 7 (by omega) inb_S512x8x512_S512x1x512_0_7_0 x
    · exact key 6 (by omega) inb_S512x8x512_S512x1x512_0_6_0 x
    · exact key 5 (by omega) inb_S512x8x512_S512x1x512_0_5_0 x
    · exact key 4 (by omega) inb_S512x8x512_S512x1x512_0_4_0 x
    · exact key 3 (by omega) inb_S512x8x512_S512x1x512_0_3_0 x
    · exact key 2 (by omega) inb_S512x8x512_S512x1x512_0_2_0 x
    · exact key 1 (by omega) inb_S512x8x512_S512x1x512_0_1_0 x
    · exact key 0 (by omega) inb_S512x8x512_S512x1x512_0_0_0 x
  · have cov : ∀ (o : ℕ) (inb : ∀ a, (![0, o, 0] : Fin 3 → ℕ) a + S512x1x512.size a ≤ S512x8x512.size a),
        b.val = o → (ix3 i b j : S512x8x512.Idx) ∈ (Rect.unit (s := S512x8x512) ![0, o, 0] S512x1x512.size inb).set := by
      intro o inb hb
      have hi := i.isLt
      have hj := j.isLt
      rw [Rect.mem_set_unit]
      intro a
      match a with
      | ⟨0, _⟩ => show 0 ≤ i.val ∧ i.val < 0 + 512; omega
      | ⟨1, _⟩ => show o ≤ b.val ∧ b.val < o + 1; omega
      | ⟨2, _⟩ => show 0 ≤ j.val ∧ j.val < 0 + 512; omega
    have hb := b.isLt
    unfold planes
    rcases (by omega : b.val = 7 ∨ b.val = 6 ∨ b.val = 5 ∨ b.val = 4 ∨ b.val = 3 ∨ b.val = 2 ∨ b.val = 1 ∨ b.val = 0)
      with h | h | h | h | h | h | h | h
    · exact ⟨_, .head _, cov 7 inb_S512x8x512_S512x1x512_0_7_0 h⟩
    · exact ⟨_, .tail _ (.head _), cov 6 inb_S512x8x512_S512x1x512_0_6_0 h⟩
    · exact ⟨_, .tail _ (.tail _ (.head _)), cov 5 inb_S512x8x512_S512x1x512_0_5_0 h⟩
    · exact ⟨_, .tail _ (.tail _ (.tail _ (.head _))), cov 4 inb_S512x8x512_S512x1x512_0_4_0 h⟩
    · exact ⟨_, .tail _ (.tail _ (.tail _ (.tail _ (.head _)))), cov 3 inb_S512x8x512_S512x1x512_0_3_0 h⟩
    · exact ⟨_, .tail _ (.tail _ (.tail _ (.tail _ (.tail _ (.head _))))), cov 2 inb_S512x8x512_S512x1x512_0_2_0 h⟩
    · exact ⟨_, .tail _ (.tail _ (.tail _ (.tail _ (.tail _ (.tail _ (.head _)))))), cov 1 inb_S512x8x512_S512x1x512_0_1_0 h⟩
    · exact ⟨_, .tail _ (.tail _ (.tail _ (.tail _ (.tail _ (.tail _ (.tail _ (.head _))))))),
        cov 0 inb_S512x8x512_S512x1x512_0_0_0 h⟩

/-- The running sums of the costs of batch entry `b`, as the kernel stores them. -/
def sumPlane (x y : Frames) (b : Fin 8) : FVec Ideal S512x1x512 .f32 :=
  k0_pay93 (k0_pay92 (frames x b) (frames y b))

/-- The running sums of the costs before each place, as the kernel stores them. -/
def prePlane (x y : Frames) (b : Fin 8) : FVec Ideal S512x1x512 .f32 :=
  k0_pay94 (k0_pay91 (frames x b) (frames y b))

/-- A sum of the terms before `j` among the first `n`. -/
theorem sum_before (n : ℕ) (d : ℕ → ℝ) (j : ℕ) (hj : j ≤ n) :
    (∑ k : Fin n, if k.val < j then (d k.val : EReal) else 0) = (cum d j : EReal) := by
  rw [← sum_coe, Fin.sum_univ_eq_sum_range (fun k => if k < j then (d k : EReal) else 0) n, ← Finset.sum_filter]
  refine Finset.sum_congr (Finset.ext fun k => ?_) fun _ _ => rfl
  simp only [Finset.mem_filter, Finset.mem_range]
  omega

/-- The costs that the kernel computes of one batch entry. -/
theorem cost_at {x y : Frames} {d : Fin 8 → ℕ → ℕ → ℝ} (hd : IsCost x y d) (b : Fin 8) (i j : Fin 512) :
    k0_pay90 (F := Ideal) (frames x b) (frames y b) (ix2 i j) = (d b i.val j.val : EReal) :=
  (kernel_cost _ _ i j x y b (fun _ _ => rfl) fun _ _ => rfl).trans (hd b i j)

/-- The sums before each place are the running sums of the costs. -/
theorem pre_at {x y : Frames} {d : Fin 8 → ℕ → ℕ → ℝ} (hd : IsCost x y d) (b : Fin 8) (i j : Fin 512) :
    k0_pay91 (F := Ideal) (frames x b) (frames y b) (ix2 i j) = (cum (d b i.val) j.val : EReal) := by
  rw [kernel_prefix, ← sum_before 512 (d b i.val) j.val j.isLt.le]
  exact Finset.sum_congr rfl fun k _ => by rw [cost_at hd]

/-- The stored sums before each place. -/
theorem prePlane_at {x y : Frames} {d : Fin 8 → ℕ → ℕ → ℝ} (hd : IsCost x y d) (b : Fin 8) (i j : Fin 512) :
    prePlane x y b (ix3 i 0 j) = (cum (d b i.val) j.val : EReal) := by
  refine Eq.trans ?_ (pre_at hd b i j)
  unfold prePlane k0_pay94
  pointwise

/-- The stored running sums. -/
theorem sumPlane_at {x y : Frames} {d : Fin 8 → ℕ → ℕ → ℝ} (hd : IsCost x y d) (b : Fin 8) (i j : Fin 512) :
    sumPlane x y b (ix3 i 0 j) = (cum (d b i.val) (j.val + 1) : EReal) := by
  have e : sumPlane x y b (ix3 i 0 j) = k0_pay91 (frames x b) (frames y b) (ix2 i j)
      + k0_pay90 (frames x b) (frames y b) (ix2 i j) := by
    unfold sumPlane k0_pay93 k0_pay92
    pointwise
  rw [e, pre_at hd, cost_at hd, cum_succ, EReal.coe_add]

end Cert.Dtw
-- ==== Proof.RefValue.lean ====
/- What the reference's loop holds before each trip: a row of the time-warping table. -/
module

public import proofs.«01_k».proof.Proof.CostReal
public import proofs.«01_k».proof.Proof.Rows

@[expose] public section

noncomputable section

namespace Cert.Dtw

open Idealize.ShloMosaic Cert.ReferenceIdeal Cert.ReferenceIdeal.Step

/-- A left fold over the first `n` values by `+` from zero is their sum. -/
theorem foldl_add (g : ℕ → EReal) (n : ℕ) :
    ((List.range n).map g).foldl (· + ·) 0 = ∑ k ∈ Finset.range n, g k := by
  induction n with
  | zero => rfl
  | succ n ih => rw [List.range_succ, List.map_append, List.foldl_append, ih, Finset.sum_range_succ]; rfl

/-- A left fold over the first `n` values by `min` from `⊤` is their infimum. -/
theorem foldl_min (g : ℕ → EReal) (n : ℕ) :
    ((List.range n).map g).foldl min ⊤ = (Finset.range n).inf g := by
  induction n with
  | zero => rfl
  | succ n ih =>
    rw [List.range_succ, List.map_append, List.foldl_append, ih, Finset.range_add_one, Finset.inf_insert, inf_comm]
    rfl

/-- A left fold in which `u` is neutral ignores leading `u`s. -/
theorem foldl_neutral {op : EReal → EReal → EReal} {u : EReal} (hop : ∀ a, op a u = a) (n : ℕ) (v : EReal) :
    ((List.range n).map fun _ => u).foldl op v = v := by
  induction n with
  | zero => rfl
  | succ n ih => rw [List.range_succ, List.map_append, List.foldl_append, ih]; exact hop v

/-- Listing the elements of a finite range by their values. -/
theorem map_finRange {M N : ℕ} (h : M = N) (F : ℕ → EReal) :
    (List.finRange M).map (fun n => F n.val) = (List.range N).map F := by
  subst h
  rw [← List.map_coe_finRange_eq_range, List.map_map]; rfl

/-- A window of `L + 1` places that ends at place `n`, padded in front with a neutral element, folds
to the fold of the places `0 … n`. -/
theorem fold_window (op : EReal → EReal → EReal) (u : EReal) (hop : ∀ a, op a u = a) (g : ℕ → EReal)
    {L n : ℕ} (hn : n ≤ L) :
    ((List.range (L + 1)).map fun w => if L ≤ n + w then g (n + w - L) else u).foldl op u
      = ((List.range (n + 1)).map g).foldl op u := by
  have e₁ : (List.range (L - n)).map (fun w => if L ≤ n + w then g (n + w - L) else u)
      = (List.range (L - n)).map fun _ => u :=
    List.map_congr_left fun w hw => if_neg (by rw [List.mem_range] at hw; omega)
  have e₂ : (List.range (n + 1)).map ((fun w => if L ≤ n + w then g (n + w - L) else u)
      ∘ fun x => L - n + x) = (List.range (n + 1)).map g :=
    List.map_congr_left fun w hw => by
      show (if L ≤ n + (L - n + w) then g (n + (L - n + w) - L) else u) = g w
      rw [if_pos (by omega)]; congr 1; omega
  rw [show L + 1 = (L - n) + (n + 1) by omega, List.range_add, List.map_append,
    List.foldl_append, List.map_map, e₁, e₂, foldl_neutral hop]

/-- The window that reaches 511 places to the left folds the prefix that ends at the position read. -/
theorem row_window {A L W : ℕ} (hW : L + 1 = W) {s₀ : Shape} (op : EReal → EReal → EReal) (u : EReal)
    (hop : ∀ a, op a u = a)
    (x : (⟨2, ![A, W]⟩ : Shape).Idx → EReal) (init : s₀.Idx → EReal) (hu : 0 < s₀.numel)
    (hinit : init (Shape.Idx.first hu) = u)
    (h : (⟨2, ![A, W]⟩ : Shape).ReduceWindows (![1, W] : Fin 2 → ℕ) ![1, 1] ![0, L] ![0, 0] ⟨2, ![A, W]⟩)
    (b : Fin A) (j : Fin W) (g : ℕ → EReal) (hg : ∀ l : Fin W, x (ix2 b l) = g l.val) :
    Host.reduceWindow op ![1, W] ![1, 1] ![0, L] ![0, 0] x init h hu (ix2 b j)
      = ((List.range (j.val + 1)).map g).foldl op u := by
  subst hW
  have hj := j.isLt
  have hN : (⟨2, ![1, L + 1]⟩ : Shape).numel = L + 1 := by
    show ∏ a : Fin 2, (![1, L + 1] : Fin 2 → ℕ) a = L + 1
    rw [Fin.prod_univ_two]
    show 1 * (L + 1) = L + 1
    omega
  have hcoord : ∀ n : Fin (⟨2, ![1, L + 1]⟩ : Shape).numel,
      (((⟨2, ![1, L + 1]⟩ : Shape).rowMajor.symm n 0).val = 0)
        ∧ ((⟨2, ![1, L + 1]⟩ : Shape).rowMajor.symm n 1).val = n.val := by
    intro n
    have e : (⟨2, ![1, L + 1]⟩ : Shape).rowMajor.symm n = ix2 (0 : Fin 1) (n.cast hN) :=
      ((⟨2, ![1, L + 1]⟩ : Shape).rowMajor.symm_apply_eq).2 (Fin.ext (by
        rw [Shape.rowMajor_val_two]
        show n.val = 0 * (L + 1) + n.val
        omega))
    rw [e]; exact ⟨rfl, rfl⟩
  unfold Host.reduceWindow
  refine (List.foldl_ext _ (fun r (n : Fin (⟨2, ![1, L + 1]⟩ : Shape).numel) =>
    op r (if L ≤ j.val + n.val then g (j.val + n.val - L) else u)) _ fun r n _ => ?_).trans ?_
  · obtain ⟨h0, h1⟩ := hcoord n
    have hn : n.val < L + 1 := (n.cast hN).isLt
    dsimp only
    congr 1
    split
    · next hin =>
      have h2 := hin 1
      change L ≤ j.val * 1 + ((⟨2, ![1, L + 1]⟩ : Shape).rowMajor.symm n 1).val
        ∧ j.val * 1 + ((⟨2, ![1, L + 1]⟩ : Shape).rowMajor.symm n 1).val - L < L + 1 at h2
      rw [h1] at h2
      rw [if_pos (by omega), ← hg ⟨j.val + n.val - L, by omega⟩]
      refine congrArg x (funext fun a => Fin.ext ?_)
      match a with
      | ⟨0, _⟩ =>
        show b.val * 1 + ((⟨2, ![1, L + 1]⟩ : Shape).rowMajor.symm n 0).val - 0 = b.val
        rw [h0]; omega
      | ⟨1, _⟩ =>
        show j.val * 1 + ((⟨2, ![1, L + 1]⟩ : Shape).rowMajor.symm n 1).val - L = j.val + n.val - L
        rw [h1]; omega
    · next hin =>
      rw [if_neg fun hle => hin fun a => ?_]
      · exact hinit
      · match a with
        | ⟨0, _⟩ =>
          show 0 ≤ b.val * 1 + ((⟨2, ![1, L + 1]⟩ : Shape).rowMajor.symm n 0).val
            ∧ b.val * 1 + ((⟨2, ![1, L + 1]⟩ : Shape).rowMajor.symm n 0).val - 0 < A
          have := b.isLt
          rw [h0]; omega
        | ⟨1, _⟩ =>
          show L ≤ j.val * 1 + ((⟨2, ![1, L + 1]⟩ : Shape).rowMajor.symm n 1).val
            ∧ j.val * 1 + ((⟨2, ![1, L + 1]⟩ : Shape).rowMajor.symm n 1).val - L < L + 1
          rw [h1]; omega
  · refine (List.foldl_map (f := fun n : Fin (⟨2, ![1, L + 1]⟩ : Shape).numel =>
      (fun w => if L ≤ j.val + w then g (j.val + w - L) else u) n.val) (g := op)).symm.trans ?_
    exact (congrArg₂ (fun i l => List.foldl op i l) hinit (map_finRange hN
      fun w => if L ≤ j.val + w then g (j.val + w - L) else u)).trans (fold_window op u hop g (by omega))

/-- The reference's running sum of a row. -/
theorem ref_cumsum (x : FVec Ideal S8x512 .f32) (init : S_.Idx → EReal) (hinit : init (Shape.Idx.first Cert.ReferenceIdeal.Gen.h_S_) = 0)
    (b : Fin 8) (j : Fin 512) (d : ℕ → ℝ) (hd : ∀ l : Fin 512, x (ix2 b l) = (d l.val : EReal)) :
    Host.reduceWindowAdd (F := Ideal) ![1, 512] ![1, 1] ![0, 511] ![0, 0] x init
      Cert.ReferenceIdeal.Gen.reduceWindows_S8x512_S8x512_w1s1p0_0_w512s1p511_0 Cert.ReferenceIdeal.Gen.h_S_ (ix2 b j) = (cum d (j.val + 1) : EReal) := by
  rw [← sum_coe, ← foldl_add]
  exact row_window rfl (· + ·) 0 add_zero x (fun _ => init (Shape.Idx.first Cert.ReferenceIdeal.Gen.h_S_)) Cert.ReferenceIdeal.Gen.h_S_ hinit
    Cert.ReferenceIdeal.Gen.reduceWindows_S8x512_S8x512_w1s1p0_0_w512s1p511_0 b j _ hd

/-- A single row of an array of rows, taken at a start that is known. -/
theorem slice_at {N A B i : ℕ} (hi : i < N) (x : (⟨3, ![N, A, B]⟩ : Shape).Idx → EReal) (start : Fin 3 → ℤ)
    (h : (⟨3, ![N, A, B]⟩ : Shape).Slices (fun _ => 0) ⟨3, ![1, A, B]⟩)
    (h0 : start 0 = i) (h1 : start 1 = 0) (h2 : start 2 = 0) (b : Fin A) (j : Fin B) :
    Host.dynamicSlice ⟨3, ![1, A, B]⟩ x start h (ix3 0 b j) = x (ix3 ⟨i, hi⟩ b j) := by
  rw [Host.dynamicSlice_apply]
  refine congrArg x (funext fun a => Fin.ext ?_)
  match a with
  | ⟨0, _⟩ => exact Host.clampedStart_of_le h.1 start 0 i h0 (show i + 1 ≤ N by omega)
  | ⟨1, _⟩ =>
    exact (congrArg (· + b.val) (Host.clampedStart_of_le h.1 start 1 0 h1 (show 0 + A ≤ A by omega))).trans
      (Nat.zero_add _)
  | ⟨2, _⟩ =>
    exact (congrArg (· + j.val) (Host.clampedStart_of_le h.1 start 2 0 h2 (show 0 + B ≤ B by omega))).trans
      (Nat.zero_add _)

/-- The row of costs that trip `i` reads is row `i` of the loop's array. -/
theorem ref_slice (s : State Ideal) (i : ℕ) (hi : i < 511) (b : Fin 8) (j : Fin 512) :
    b3 i s (ix2 b j) = s.main_v34_0 (ix3 ⟨i, hi⟩ b j) := by
  have hI : (BitVec.ofNat 32 i).toInt = i := by
    rw [BitVec.toInt_eq_toNat_of_lt (by rw [BitVec.toNat_ofNat]; omega), BitVec.toNat_ofNat]; omega
  have e : b3 i s (ix2 b j) = b2 i s (ix3 0 b j) := by
    unfold b3
    pointwise
  rw [e]
  exact slice_at hi s.main_v34_0 _ _ hI rfl rfl b j

/-- The row above, moved one place to the right, with `⊤` in the first place. -/
theorem ref_shift (s : State Ideal) (i : ℕ) (b : Fin 8) (j : Fin 512) :
    b5 i s (ix2 b j) = if h : j.val = 0 then ⊤ else s.main_v34_3 (ix2 b ⟨j.val - 1, by omega⟩) := by
  unfold b5 b4 K_main_v33 K_main_cst_7
  pointwise
  rw [word_inf]
  by_cases h : j.val = 0
  · rw [dif_pos h, dif_pos (by omega)]
  · rw [dif_neg h, dif_neg (by omega)]

/-- One trip of the reference's loop makes the next row of the table. -/
theorem ref_trip (s : State Ideal) (i : ℕ) (hi : i < 511) (b : Fin 8) (d p : ℕ → ℝ)
    (hd : ∀ j : Fin 512, s.main_v34_0 (ix3 ⟨i, hi⟩ b j) = (d j.val : EReal))
    (hp : ∀ j : Fin 512, s.main_v34_3 (ix2 b j) = (p j.val : EReal)) (j : Fin 512) :
    b15 i s (ix2 b j) = (nextRow d p j.val : EReal) := by
  have h3 : ∀ l : Fin 512, b3 i s (ix2 b l) = (d l.val : EReal) := fun l => (ref_slice s i hi b l).trans (hd l)
  have h10 : ∀ l : Fin 512, b10 i s (ix2 b l) = (cum d (l.val + 1) : EReal) := fun l =>
    ref_cumsum (b3 i s) _ word_zero b l d h3
  have h11 : ∀ l : Fin 512, b11 i s (ix2 b l) = ((fun k => ((d k : EReal) + min (p k : EReal)
      (if k = 0 then ⊤ else (p (k - 1) : EReal))) - (cum d (k + 1) : EReal)) l.val : EReal) := fun l => by
    show (b3 i s (ix2 b l) + min (s.main_v34_3 (ix2 b l)) (b5 i s (ix2 b l))) - b10 i s (ix2 b l) = _
    rw [h3, hp, ref_shift, h10]
    beta_reduce
    by_cases h : l.val = 0
    · rw [dif_pos h, if_pos h]
    · rw [dif_neg h, if_neg h, hp]
  have h14 : b14 i s (ix2 b j) = (Finset.range (j.val + 1)).inf fun k => ((d k : EReal) + min (p k : EReal)
      (if k = 0 then ⊤ else (p (k - 1) : EReal))) - (cum d (k + 1) : EReal) := by
    rw [← foldl_min]
    exact row_window rfl min ⊤ min_top_right (b11 i s) _ Cert.ReferenceIdeal.Gen.h_S_ word_inf
      Cert.ReferenceIdeal.Gen.reduceWindows_S8x512_S8x512_w1s1p0_0_w512s1p511_0 b j _ h11
  show b10 i s (ix2 b j) + b14 i s (ix2 b j) = _
  rw [h10, h14, ref_row]

/-- Before trip `n` the loop holds row `n` of the table. -/
theorem ref_rows (x y : Frames) (d : Fin 8 → ℕ → ℕ → ℝ) (hd : IsCost x y d) (it : ℕ → State Ideal)
    (h0 : it 0 = init x y) (hs : ∀ n, it (n + 1) = step n (it n)) (n : ℕ) (hn : n ≤ 511) :
    (it n).main_v34_0 = A_main_v32 x y ∧
      ∀ (b : Fin 8) (j : Fin 512), (it n).main_v34_3 (ix2 b j) = (table (d b) n j.val : EReal) := by
  induction n with
  | zero =>
    rw [h0]
    refine ⟨rfl, fun b j => ref_cumsum _ _ word_zero b j (d b 0) fun l => ?_⟩
    refine Eq.trans ?_ (hd b 0 l)
    rw [← ref_cost]
    unfold A_main_v29 A_main_v28
    pointwise
  | succ n ih =>
    obtain ⟨i0, i3⟩ := ih (by omega)
    rw [hs]
    refine ⟨i0, fun b j => ref_trip (it n) n (by omega) b (d b (n + 1)) (table (d b) n) (fun l => ?_) (i3 b) j⟩
    refine Eq.trans ?_ (hd b ⟨n + 1, by omega⟩ l)
    rw [i0, ← ref_cost]
    unfold A_main_v32 A_main_v31
    pointwise
    simp only [Nat.add_comm 1 n]

/-- The mean over the eight batches of the last entries of the tables. -/
def loss (d : Fin 8 → ℕ → ℕ → ℝ) : ℝ := (∑ b : Fin 8, table (d b) 511 511) / 8

/-- The reference's result is the mean loss. -/
theorem ref_loss (x y : Frames) (d : Fin 8 → ℕ → ℕ → ℝ) (hd : IsCost x y d) (it : ℕ → State Ideal)
    (h0 : it 0 = init x y) (hs : ∀ n, it (n + 1) = step n (it n)) (z : S_.Idx) :
    R_main_v38 (it 511) z = (loss d : EReal) := by
  have h := (ref_rows x y d hd it h0 hs 511 le_rfl).2
  unfold R_main_v38
  pointwise
  have e : (∑ b : Fin 8, (it 511).main_v34_3 (ix2 b 511)) = ((∑ b : Fin 8, table (d b) 511 511 : ℝ) : EReal) :=
    (Finset.sum_congr rfl fun b _ => h b 511).trans (coe_sum _)
  rw [e, word_eight]
  unfold Ideal.div loss
  rw [if_neg (by simp), ← EReal.coe_inv, ← EReal.coe_mul, div_eq_mul_inv]

end Cert.Dtw
-- ==== Proof.KernelValue.lean ====
/- The value the kernel leaves in its result: the mean loss of the table. -/
module

public import proofs.«01_k».proof.Proof.KernelRow
public import proofs.«01_k».proof.Proof.Stack
public import proofs.«01_k».proof.Proof.RefValue
public import Idealize.ShloMosaic.Lib.WritesUnit

@[expose] public section

noncomputable section

namespace Cert.Dtw

open Idealize.ShloMosaic Idealize.SL.Sem Cert.KernelIdeal Cert.KernelIdeal.Gen

variable (c : Dev nD) (arg0 : Memref sig .tc .vmem S8x512x64 .f32) (harg0 : arg0.IsWhole)
  (arg1 : Memref sig .tc .vmem S8x512x64 .f32) (harg1 : arg1.IsWhole) (arg2 : Memref sig .tc .vmem S1x1 .f32)
  (harg2 : arg2.IsWhole) (arg3 : Memref sig .tc .vmem S512x8x512 .f32) (harg3 : arg3.IsWhole)
  (arg4 : Memref sig .tc .vmem S512x8x512 .f32) (harg4 : arg4.IsWhole)

/-- What the kernel stores in its first stack: the running sums of the costs. -/
theorem sums_eq (x y : Frames) :
    kernelRun0_A.sl.HS0_8 c arg0 harg0 arg1 harg1 x y = planes (sumPlane x y) := by
  sl_unfold_words
  rw [load_frames arg0 harg0 x 0 (by omega), load_frames arg0 harg0 x 1 (by omega), load_frames arg0 harg0 x 2 (by omega),
    load_frames arg0 harg0 x 3 (by omega), load_frames arg0 harg0 x 4 (by omega), load_frames arg0 harg0 x 5 (by omega),
    load_frames arg0 harg0 x 6 (by omega), load_frames arg0 harg0 x 7 (by omega),
    load_frames arg1 harg1 y 0 (by omega), load_frames arg1 harg1 y 1 (by omega), load_frames arg1 harg1 y 2 (by omega),
    load_frames arg1 harg1 y 3 (by omega), load_frames arg1 harg1 y 4 (by omega), load_frames arg1 harg1 y 5 (by omega),
    load_frames arg1 harg1 y 6 (by omega), load_frames arg1 harg1 y 7 (by omega)]
  rfl

/-- What the kernel stores in its second stack: the sums of the costs before each place. -/
theorem pres_eq (x y : Frames) :
    kernelRun0_A.sl.HS1_8 c arg0 harg0 arg1 harg1 x y = planes (prePlane x y) := by
  sl_unfold_words
  rw [load_frames arg0 harg0 x 0 (by omega), load_frames arg0 harg0 x 1 (by omega), load_frames arg0 harg0 x 2 (by omega),
    load_frames arg0 harg0 x 3 (by omega), load_frames arg0 harg0 x 4 (by omega), load_frames arg0 harg0 x 5 (by omega),
    load_frames arg0 harg0 x 6 (by omega), load_frames arg0 harg0 x 7 (by omega),
    load_frames arg1 harg1 y 0 (by omega), load_frames arg1 harg1 y 1 (by omega), load_frames arg1 harg1 y 2 (by omega),
    load_frames arg1 harg1 y 3 (by omega), load_frames arg1 harg1 y 4 (by omega), load_frames arg1 harg1 y 5 (by omega),
    load_frames arg1 harg1 y 6 (by omega), load_frames arg1 harg1 y 7 (by omega)]
  rfl

/-- A row loaded out of a stack of planes. -/
theorem load_row (M : Memref sig .tc .vmem S512x8x512 .f32) (f : M.view.ty.Contents (Elt Ideal))
    (P : Fin 8 → FVec Ideal S512x1x512 .f32) (off : Fin 3 → ℕ) (i : Fin 512) (hoff : off = ![i.val, 0, 0])
    (inb : ∀ a, off a + S1x8x512.size a ≤ S512x8x512.size a) (b : Fin 8) (j : Fin 512) :
    flat (View.readAt (Elt Ideal) M.view (Rect.unit (s := S512x8x512) off S1x8x512.size inb).toLoadRect
      (M.view.writes (Elt Ideal) f (planes P))) (ix2 b j) = P b (ix3 i 0 j) := by
  subst hoff
  rw [← read_planes M f P i b j]
  generalize M.view.writes (Elt Ideal) f (planes P) = g
  have e : ∀ v : Vec Ideal S1x8x512 .f32, flat v (ix2 b j) = v (ix3 0 b j) := fun v => by
    unfold flat
    pointwise
  rw [e, View.readAt_apply]
  refine congrArg (M.view.read (Elt Ideal) g) (funext fun a => Fin.ext ?_)
  match a with
  | ⟨0, _⟩ => show i.val + 1 * 0 = i.val; omega
  | ⟨1, _⟩ => show 0 + 1 * b.val = b.val; omega
  | ⟨2, _⟩ => show 0 + 1 * j.val = j.val; omega

/-- One trip of the loop makes the new row from the two rows of sums that it loads and the row above. -/
theorem trip_eq (v5 : FVec Ideal S512x512 .f32) (v289 : FVec Ideal S512x64 .f32) (v290 : FVec Ideal S512x512 .f32)
    (v293 : FVec Ideal S512x1 .f32) (v296 : FVec Ideal S1x512 .f32) (v298 : FVec Ideal S512x1 .f32)
    (X3 : BufTy.Contents (Elt Ideal) arg3.view.ty) (X4 : BufTy.Contents (Elt Ideal) arg4.view.ty)
    (k : Fin k0_t1_loop.trips) (acc : FVec Ideal S8x512 .f32) :
    tripR_k0_t1 (F := Ideal) Variants.none c none arg0 harg0 arg1 harg1 arg2 harg2 arg3 harg3 arg4 harg4
        v5 v289 v290 v293 v296 v298 X3 X4 k acc
      = rowVec
          (flat (View.readAt (Elt Ideal) arg3.view
            (Rect.unit (s := S512x8x512) (k0_off1 k) S1x8x512.size (k0_off1_inb k)).toLoadRect X3))
          (flat (View.readAt (Elt Ideal) arg4.view
            (Rect.unit (s := S512x8x512) (k0_off1 k) S1x8x512.size (k0_off1_inb k)).toLoadRect X4)) acc := by
  unfold tripR_k0_t1 trip_k0_t1
  dsimp only
  sl_unfold_words
  generalize (View.readAt (Elt Ideal) arg3.view _ X3) = u
  generalize (View.readAt (Elt Ideal) arg4.view _ X4) = v
  rfl

/-- The loop takes 511 trips. -/
theorem trips_eq : k0_t1_loop.trips = 511 := by decide

/-- Before trip `n` the loop carries row `n` of the table. -/
theorem kernel_rows {x y : Frames} {d : Fin 8 → ℕ → ℕ → ℝ} (hd : IsCost x y d) (h0 : ∀ b i j, 0 ≤ d b i j)
    (v5 : FVec Ideal S512x512 .f32) (v289 : FVec Ideal S512x64 .f32) (v290 : FVec Ideal S512x512 .f32)
    (v293 : FVec Ideal S512x1 .f32) (v296 : FVec Ideal S1x512 .f32) (v298 : FVec Ideal S512x1 .f32)
    (f3 : BufTy.Contents (Elt Ideal) arg3.view.ty) (f4 : BufTy.Contents (Elt Ideal) arg4.view.ty)
    (start : FVec Ideal S8x512 .f32) (hstart : IsRows start fun b j => (table (d b) 0 j : EReal))
    (n : ℕ) (hn : n ≤ 511) :
    IsRows (st_k0_t1 (F := Ideal) Variants.none c none arg0 harg0 arg1 harg1 arg2 harg2 arg3 harg3 arg4 harg4
        v5 v289 v290 v293 v296 v298 (arg3.view.writes (Elt Ideal) f3 (planes (sumPlane x y)))
        (arg4.view.writes (Elt Ideal) f4 (planes (prePlane x y))) start n)
      fun b j => (table (d b) n j : EReal) := by
  induction n with
  | zero => exact hstart
  | succ n ih =>
    have hk : n < k0_t1_loop.trips := by rw [trips_eq]; omega
    rw [st_k0_t1_succ Variants.none c none arg0 harg0 arg1 harg1 arg2 harg2 arg3 harg3 arg4 harg4
      v5 v289 v290 v293 v296 v298 _ _ start ⟨n, hk⟩, trip_eq]
    have hoff : k0_off1 ⟨n, hk⟩ = ![n + 1, 0, 0] := k0_off1_eq ⟨n, hk⟩
    intro b j
    refine (rowVec_at (fc := fun b j => (cum (d b (n + 1)) (j + 1) : EReal)) (fe := fun b j => (cum (d b (n + 1)) j : EReal))
      (fun b j => ?_) (fun b j => ?_) (ih (by omega)) b j).trans (kernel_row (d b (n + 1)) (table (d b) n) (h0 b (n + 1)) j.val)
    · exact (load_row arg3 f3 (sumPlane x y) _ ⟨n + 1, by omega⟩ hoff _ b j).trans (sumPlane_at hd b ⟨n + 1, by omega⟩ j)
    · exact (load_row arg4 f4 (prePlane x y) _ ⟨n + 1, by omega⟩ hoff _ b j).trans (prePlane_at hd b ⟨n + 1, by omega⟩ j)

/-- The row the loop starts from. -/
theorem start_rows {x y : Frames} {d : Fin 8 → ℕ → ℕ → ℝ} (hd : IsCost x y d) :
    IsRows (k0_pay148 (F := Ideal) (kernelRun0_A.sl.v326 c arg0 harg0 arg1 harg1 arg3 x y)) fun b j => (table (d b) 0 j : EReal) := by
  intro b j
  unfold kernelRun0_A.sl.v326
  dsimp only
  rw [sums_eq]
  exact (load_row arg3 _ (sumPlane x y) _ 0 rfl _ b j).trans (sumPlane_at hd b 0 j)

/-- The kernel's last word: the mean of the last entries of the eight rows. -/
theorem mean_at {T : FVec Ideal S8x512 .f32} {d : Fin 8 → ℕ → ℕ → ℝ}
    (hT : IsRows T fun b j => (table (d b) 511 j : EReal)) : k0_pay150 (F := Ideal) T = (loss d : EReal) := by
  unfold k0_pay150
  pointwise
  have e : (∑ b : Fin 8, T (ix2 b 511)) = ((∑ b : Fin 8, table (d b) 511 511 : ℝ) : EReal) :=
    (Finset.sum_congr rfl fun b _ => hT b 511).trans (coe_sum _)
  rw [e, word_eighth, ← EReal.coe_mul]
  unfold loss
  rw [one_div, div_eq_mul_inv]

/-- What the kernel leaves in its one result, when the costs are the nonnegative real numbers `d`. -/
theorem out_at {x y : Frames} {d : Fin 8 → ℕ → ℕ → ℝ} (hd : IsCost x y d) (h0 : ∀ b i j, 0 ≤ d b i j) (z : S1x1.Idx) :
    out0_A_2 (F := Ideal) c arg0 harg0 arg1 harg1 arg2 harg2 arg3 harg3 arg4 harg4 x y z = (loss d : EReal) := by
  unfold out0_A_2 kernelRun0_A
  dsimp only
  unfold kernelRun0_A.sl.r_21
  dsimp only
  rw [sums_eq, pres_eq]
  refine (View.read_writes_cons_unit_of_mem VO0_2 _ inb_S1x1_S1x1_0_0 _ [] z z rfl fun a => ?_).trans ?_
  · match a with
    | ⟨0, _⟩ => exact (Nat.zero_add _).symm
    | ⟨1, _⟩ => exact (Nat.zero_add _).symm
  · refine Eq.trans (b := k0_pay150 (F := Ideal) _) rfl (mean_at ?_)
    exact kernel_rows c arg0 harg0 arg1 harg1 arg2 harg2 arg3 harg3 arg4 harg4 hd h0 _ _ _ _ _ _ _ _ _
      (start_rows c arg0 harg0 arg1 harg1 arg3 hd) 511 le_rfl

end Cert.Dtw
-- ==== Proof.Run.lean ====
/- What the kernel's program leaves in its result, on every device. -/
module

public import proofs.«01_k».proof.Proof.KernelValue
public import Idealize.ShloMosaic.Lib.Pipeline.ValueKit
public import Idealize.ShloMosaic.Lib.Claim

@[expose] public section

noncomputable section

namespace Cert.Dtw

open Idealize.ShloMosaic Idealize.SL.Sem Cert.KernelIdeal Cert.KernelIdeal.Gen

variable (m : (ℓ : Loc nD τ sig) → Buf (Elt Ideal) ℓ) (ρ : Dev nD → PrngReg)

/-- At the kernel's one grid point both inputs are at block 0. -/
theorem indices : win0_0.index t0_0 = ![0, 0, 0] ∧ win0_1.index t0_0 = ![0, 0, 0] := by
  decide +kernel

/-- The block of the first input is the whole first argument. -/
theorem block_zero (c : Dev nD) (t : Fin cfg0.N) : iblk m c 0 t = m ((c.tc : Thread nD τ).loc main_arg0) := by
  rw [fin_N0 t]
  funext y
  blk_ext! [iblk, V, indices]

/-- The block of the second input is the whole second argument. -/
theorem block_one (c : Dev nD) (t : Fin cfg0.N) : iblk m c 1 t = m ((c.tc : Thread nD τ).loc main_arg1) := by
  rw [fin_N0 t]
  funext y
  blk_ext! [iblk, V, indices]

/-- The array that the call returns holds the mean loss, when the costs are the nonnegative real numbers `d`. -/
theorem result_array (c : Dev nD) {d : Fin 8 → ℕ → ℕ → ℝ}
    (hd : IsCost (m ((c.tc : Thread nD τ).loc main_arg0)) (m ((c.tc : Thread nD τ).loc main_arg1)) d)
    (h0 : ∀ b i j, 0 ≤ d b i j) :
    (dats m 0 c).arrAt 2 (cfgs 0).N = fun _ => (loss d : EReal) := by
  refine (dats m 0 c).arrAt_eq_of_covers 2 _ (by decide +kernel) fun t hf y => ?_
  blk_simp
  rw [after0_2]
  unfold outsAt0
  rw [block_zero, block_one]
  exact out_at c _ _ _ _ _ _ _ _ _ _ hd h0 _

/-- The kernel's program terminates; on every device its result is then the mean loss of that device's arguments, and the
    arguments are as they were. -/
theorem run_loss (d : Dev nD → Fin 8 → ℕ → ℕ → ℝ)
    (hd : ∀ c : Dev nD, IsCost (m ((c.tc : Thread nD τ).loc main_arg0)) (m ((c.tc : Thread nD τ).loc main_arg1)) (d c))
    (h0 : ∀ (c : Dev nD) b i j, 0 ≤ d c b i j) :
    θ_run defs (onTc (τ := τ) (main (F := Ideal))) ⟨m, fun _ => 0, ρ⟩ fun r => ∀ c : Dev nD,
      r.2.mem ((c.tc : Thread nD τ).loc main_v0) = (fun _ => (loss (d c) : EReal))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  run_from run_main m ρ
  have e : Pipeline.withArrays (cfgs 0).spec c (V0 m c) (fun w => (dats m 0 c).arrAt w (cfgs 0).N) (Proc.devRef .tc main_call0_v0)
      = fun _ => (loss (d c) : EReal) :=
    (Pipeline.withArrays_arr spec0 launch0.win.arr_inj c (V0 m c) (fun w => (dats m 0 c).arrAt w (cfgs 0).N) 2).trans
      (result_array m c (hd c) (h0 c))
  unfold Pipeline.afterTail₀
  generalize Pipeline.withArrays (cfgs 0).spec c (V0 m c) (fun w => (dats m 0 c).arrAt w (cfgs 0).N) = W at e ⊢
  change StableHlo.after hostOps1 W _ = _
  unfold hostOps1
  after_results
  rw [e]
  rfl

end Cert.Dtw
-- ==== Proof.RefRun.lean ====
/- The reference's run: what it leaves in its result, its arguments and its counters. -/
module

public import proofs.«01_k».proof.Proof.RefValue
public import proofs.«01_k».proof.Proof.Gen.ReferenceIdeal.StepRun
public import Idealize.ShloMosaic.Lib.Claim

@[expose] public section

noncomputable section

namespace Cert.Dtw

open Idealize.ShloMosaic Idealize.SL.Sem Cert.ReferenceIdeal Cert.ReferenceIdeal.Step

variable (m : (ℓ : Loc nD τ sig) → Buf (Elt Ideal) ℓ) (ρ : Dev nD → PrngReg)

/-- The states that the reference's loop passes through on device `c`, the first being its state at entry. -/
def states (c : Dev nD) : ℕ → State Ideal
  | 0 => StepRun.initState m c
  | n + 1 => step n (states c n)

/-- From any memory the reference terminates, and every device then holds in the result what its last state gives, and
    the arguments as they were. -/
theorem ref_run : θ_run defs (onTc (τ := τ) (main (F := Ideal))) ⟨m, fun _ => 0, ρ⟩ fun r => ∀ c : Dev nD,
      r.2.mem ((c.tc : Thread nD τ).loc main_v38) = R_main_v38 (states m c 511)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  StepRun.run_iter m ρ (states m) (fun _ => rfl) fun _ _ => rfl

/-- The reference terminates with its arguments unchanged and every counter at zero: it has no counters. -/
theorem ref_frame : θ_run defs (onTc (τ := τ) (main (F := Ideal))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0 :=
  θ_run_mono (ref_run m ρ) fun r h => ⟨fun c => (h c).2, sem_eq_zero_of_no_sems (by decide) r.2⟩

/-- When the costs on device `c` are the real numbers `d c`, the reference's result there is their mean loss. -/
theorem ref_run_loss (d : Dev nD → Fin 8 → ℕ → ℕ → ℝ)
    (hd : ∀ c : Dev nD, IsCost (m ((c.tc : Thread nD τ).loc main_arg0)) (m ((c.tc : Thread nD τ).loc main_arg1)) (d c)) :
    θ_run defs (onTc (τ := τ) (main (F := Ideal))) ⟨m, fun _ => 0, ρ⟩ fun r => ∀ c : Dev nD,
      r.2.mem ((c.tc : Thread nD τ).loc main_v38) = (fun _ => (loss (d c) : EReal))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  θ_run_mono (ref_run m ρ) fun r h c => ⟨(h c).1.trans (funext fun z =>
    ref_loss _ _ (d c) (hd c) (states m c) rfl (fun _ => rfl) z), (h c).2⟩

end Cert.Dtw
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.StepRun
public import proofs.«01_k».proof.Proof.Gen.ReferenceIdeal.Step
public import proofs.«01_k».proof.Proof.Run
public import proofs.«01_k».proof.Proof.RefRun
public import Idealize.ShloMosaic.Adequacy
public import Idealize.ShloMosaic.Init

@[expose] public section

noncomputable section

namespace Cert.Proof

open Idealize.ShloMosaic Idealize.SL.Sem Cert.Dtw

/-- The side condition that the printed precondition states: a scalar spreads over an array of frames. -/
theorem finite_facts : Cert.Pre_finite.Facts := ⟨by decide⟩

/-- From finite arguments the kernel and the reference both terminate, and on every device both leave the same number:
    the mean, over the batch, of the least cost of a monotone path through the table of distances. -/
theorem same_loss [Cert.Pre_finite.Facts] : Cert.algebraic_KernelIdeal_ReferenceIdeal_pre_finite := by
  intro m g m' g' hpre hagree
  choose d h0 hd using fun c => exists_cost _ _ (hpre c)
  refine ⟨fun c _ => (loss (d c) : EReal), run_loss m g d hd h0, ref_run_loss m' g' d fun c => ?_⟩
  rw [(hagree c).1, (hagree c).2]
  exact hd c

/-- The claims: each program runs with its arguments unchanged and its counters at zero, the named constant reads as the
    largest extended real, and kernel and reference leave the same value. -/
theorem claim : Cert.Claim :=
  haveI := finite_facts
  ⟨Cert.Kernel.Gen.facts, Cert.KernelIdeal.Gen.facts, Cert.ReferenceIdeal.Gen.facts, finite_facts,
    fun m ρ _ => Cert.Kernel.Gen.frame m ρ, fun m ρ _ => Cert.KernelIdeal.Gen.frame m ρ,
    fun m ρ _ => Cert.KernelIdeal.Gen.frame m ρ, fun m ρ _ => ref_frame m ρ, fun m ρ _ => ref_frame m ρ,
    IdealRules.named_const.statement Cert.KernelIdeal.κ "far" .f32 0x7F61B1E6#32 ⊤ rfl, same_loss⟩

end Cert.Proof

end
